-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "step" .f32 0x3C010204#32 ((1 / 127 : ℝ) : EReal)
  ∧ IdealRules.named_const.Statement Cert.KernelIdeal.κ "scale_log2e" .f32 0x3E38AA3B#32 (((1 / 8) * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.blockN ⟨4, ![2, 512, 8, 64]⟩ ⟨4, ![2, 1024, 8, 64]⟩ (Layout.meshBlock [2, 2] ![[], [1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v55) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .f32) (main_arg1 : FVec F S2x512x8x64 .f32) (main_arg2 : FVec F S2x512x8x64 .f32) : IVec S2x512x8x64 1 × IVec S2x512x8x64 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_v3 : FVec F S2x512x8x64 .f32 := Host.absf main_arg1
  let main_cst_0 : FVec F S_ .f32 := constant S_ .f32 0x7F800000#32
  let main_v4 : FVec F S2x512x8x64 .f32 := broadcastInDim S2x512x8x64 ![] bcast_S_S2x512x8x64 main_cst_0
  let main_v5 : IVec S2x512x8x64 1 := cmpf .olt main_v3 main_v4
  (main_v2, main_v5)
-- ==== Pre_finite_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)

variable [Facts]

def fn {F : FTy → Type} [FloatOps F] (main_arg0 : FVec F S2x1024x8x64 .f32) (main_arg1 : FVec F S2x1024x8x64 .f32) (main_arg2 : FVec F S2x1024x8x64 .f32) : IVec S2x1024x8x64 1 × IVec S2x1024x8x64 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_v3 : FVec F S2x1024x8x64 .f32 := Host.absf main_arg1
  let main_cst_0 : FVec F S_ .f32 := constant S_ .f32 0x7F800000#32
  let main_v4 : FVec F S2x1024x8x64 .f32 := broadcastInDim S2x1024x8x64 ![] bcast_S_S2x1024x8x64 main_cst_0
  let main_v5 : IVec S2x1024x8x64 1 := cmpf .olt main_v3 main_v4
  (main_v2, main_v5)
-- ==== Kernel.lean ====
abbrev S2x512x8x64 : Shape := ⟨4, ![2, 512, 8, 64]⟩
abbrev S2x8x512x64 : Shape := ⟨4, ![2, 8, 512, 64]⟩
abbrev S16x512x64 : Shape := ⟨3, ![16, 512, 64]⟩
abbrev S8x512x128 : Shape := ⟨3, ![8, 512, 128]⟩
abbrev S8x512x2 : Shape := ⟨3, ![8, 512, 2]⟩
abbrev S8x512x65 : Shape := ⟨3, ![8, 512, 65]⟩
abbrev S8x512x64 : Shape := ⟨3, ![8, 512, 64]⟩
abbrev S8 : Shape := ⟨1, ![8]⟩
abbrev S_ : Shape := ⟨0, ![]⟩
abbrev S1x512x64 : Shape := ⟨3, ![1, 512, 64]⟩
abbrev S512x64 : Shape := ⟨2, ![512, 64]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S512x2 : Shape := ⟨2, ![512, 2]⟩
abbrev S1x512x2 : Shape := ⟨3, ![1, 512, 2]⟩
abbrev S1 : Shape := ⟨1, ![1]⟩
abbrev S512x512 : Shape := ⟨2, ![512, 512]⟩
abbrev S512x65 : Shape := ⟨2, ![512, 65]⟩
abbrev S1x512x65 : Shape := ⟨3, ![1, 512, 65]⟩

abbrev nBuf : Space → Nat
  | .hbm => 14
  | .vmem => 11
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x64, .f32⟩
  | .hbm, ⟨4, _⟩ => ⟨S16x512x64, .f32⟩
  | .hbm, ⟨5, _⟩ => ⟨S2x8x512x64, .f32⟩
  | .hbm, ⟨6, _⟩ => ⟨S16x512x64, .f32⟩
  | .hbm, ⟨7, _⟩ => ⟨S16x512x64, .bf16⟩
  | .hbm, ⟨8, _⟩ => ⟨S2x8x512x64, .f32⟩
  | .hbm, ⟨9, _⟩ => ⟨S16x512x64, .f32⟩
  | .hbm, ⟨10, _⟩ => ⟨S16x512x64, .bf16⟩
  | .hbm, ⟨11, _⟩ => ⟨S16x512x64, .f32⟩
  | .hbm, ⟨12, _⟩ => ⟨S2x8x512x64, .f32⟩
  | .hbm, ⟨13, _⟩ => ⟨S2x512x8x64, .f32⟩
  | .local _ .vmem, ⟨0, _⟩ => ⟨S16x512x64, .f32⟩
  | .local _ .vmem, ⟨1, _⟩ => ⟨S16x512x64, .bf16⟩
  | .local _ .vmem, ⟨2, _⟩ => ⟨S16x512x64, .bf16⟩
  | .local _ .vmem, ⟨3, _⟩ => ⟨S16x512x64, .f32⟩
  | .local _ .vmem, ⟨4, _⟩ => ⟨S8x512x128, .i8⟩
  | .local _ .vmem, ⟨5, _⟩ => ⟨S8x512x2, .bf16⟩
  | .local _ .vmem, ⟨6, _⟩ => ⟨S8x512x128, .i8⟩
  | .local _ .vmem, ⟨7, _⟩ => ⟨S8x512x2, .bf16⟩
  | .local _ .vmem, ⟨8, _⟩ => ⟨S8x512x65, .f32⟩
  | .local _ .vmem, ⟨9, _⟩ => ⟨S8x512x64, .bf16⟩
  | .local _ .vmem, ⟨10, _⟩ => ⟨S8x512x64, .bf16⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v10 : BitVec 32 := Scalar.muli v2 c2_i32_5
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v12 : BitVec 32 := Scalar.muli v6 c1_i32_6
  let v13 : BitVec 32 := Scalar.addi v11 v12
  v13.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v14 : BitVec 32 := Scalar.muli v7 c2_i32_8
  let v15 : BitVec 32 := Scalar.addi c0_i32_9 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v16 : BitVec 32 := Scalar.muli v5 c1_i32_10
  let v17 : BitVec 32 := Scalar.addi v15 v16
  v17.toNat
def k0_off1 (d0 : Dev nD) (c0_i32_11 : BitVec 32) : Fin 3 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c8_i32 : BitVec 32 := 8#32
  let v8 : BitVec 32 := Scalar.muli v2 c8_i32
  let v18 : BitVec 32 := Scalar.addi v8 c0_i32_11
  let v19 : Index := Scalar.indexCast v18
  let c0 : Index := 0#32
  let c0_12 : Index := 0#32
  ![v19.toNat, 0, 0]
def k0_dev3 (d0 : Dev nD) : Nat :=
  let c0_i32_151 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_150 : BitVec 32 := 2#32
  let v354 : BitVec 32 := Scalar.muli v2 c2_i32_150
  let v355 : BitVec 32 := Scalar.addi c0_i32_151 v354
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_152 : BitVec 32 := 1#32
  let v356 : BitVec 32 := Scalar.muli v6 c1_i32_152
  let v357 : BitVec 32 := Scalar.addi v355 v356
  v357.toNat
def k0_dev4 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_155 : BitVec 32 := 2#32
  let v358 : BitVec 32 := Scalar.muli v2 c2_i32_155
  let v359 : BitVec 32 := Scalar.addi c0_i32_156 v358
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_157 : BitVec 32 := 1#32
  let v360 : BitVec 32 := Scalar.muli v6 c1_i32_157
  let v361 : BitVec 32 := Scalar.addi v359 v360
  v361.toNat
def k0_dev5 (d0 : Dev nD) : Nat :=
  let c0_i32_167 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_166 : BitVec 32 := 2#32
  let v368 : BitVec 32 := Scalar.muli v2 c2_i32_166
  let v369 : BitVec 32 := Scalar.addi c0_i32_167 v368
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_168 : BitVec 32 := 1#32
  let v370 : BitVec 32 := Scalar.muli v6 c1_i32_168
  let v371 : BitVec 32 := Scalar.addi v369 v370
  v371.toNat
def k0_dev6 (d0 : Dev nD) : Nat :=
  let c0_i32_178 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_177 : BitVec 32 := 2#32
  let v378 : BitVec 32 := Scalar.muli v2 c2_i32_177
  let v379 : BitVec 32 := Scalar.addi c0_i32_178 v378
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_179 : BitVec 32 := 1#32
  let v380 : BitVec 32 := Scalar.muli v6 c1_i32_179
  let v381 : BitVec 32 := Scalar.addi v379 v380
  v381.toNat
def k0_dev7 (d0 : Dev nD) : Nat :=
  let c0_i32_189 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_188 : BitVec 32 := 2#32
  let v388 : BitVec 32 := Scalar.muli v2 c2_i32_188
  let v389 : BitVec 32 := Scalar.addi c0_i32_189 v388
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_190 : BitVec 32 := 1#32
  let v390 : BitVec 32 := Scalar.muli v6 c1_i32_190
  let v391 : BitVec 32 := Scalar.addi v389 v390
  v391.toNat
def k0_dev8 (d0 : Dev nD) : Nat :=
  let c0_i32_200 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_199 : BitVec 32 := 2#32
  let v398 : BitVec 32 := Scalar.muli v2 c2_i32_199
  let v399 : BitVec 32 := Scalar.addi c0_i32_200 v398
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_201 : BitVec 32 := 1#32
  let v400 : BitVec 32 := Scalar.muli v6 c1_i32_201
  let v401 : BitVec 32 := Scalar.addi v399 v400
  v401.toNat
def k0_dev9 (d0 : Dev nD) : Nat :=
  let c0_i32_211 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_210 : BitVec 32 := 2#32
  let v408 : BitVec 32 := Scalar.muli v2 c2_i32_210
  let v409 : BitVec 32 := Scalar.addi c0_i32_211 v408
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_212 : BitVec 32 := 1#32
  let v410 : BitVec 32 := Scalar.muli v6 c1_i32_212
  let v411 : BitVec 32 := Scalar.addi v409 v410
  v411.toNat
def k0_dev10 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v418 : BitVec 32 := Scalar.muli v2 c2_i32_221
  let v419 : BitVec 32 := Scalar.addi c0_i32_222 v418
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_223 : BitVec 32 := 1#32
  let v420 : BitVec 32 := Scalar.muli v6 c1_i32_223
  let v421 : BitVec 32 := Scalar.addi v419 v420
  v421.toNat
def k0_dev11 (d0 : Dev nD) : Nat :=
  let c0_i32_233 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_232 : BitVec 32 := 2#32
  let v428 : BitVec 32 := Scalar.muli v2 c2_i32_232
  let v429 : BitVec 32 := Scalar.addi c0_i32_233 v428
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_234 : BitVec 32 := 1#32
  let v430 : BitVec 32 := Scalar.muli v6 c1_i32_234
  let v431 : BitVec 32 := Scalar.addi v429 v430
  v431.toNat
def k0_dev12 (d0 : Dev nD) : Nat :=
  let c0_i32_297 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_296 : BitVec 32 := 2#32
  let v518 : BitVec 32 := Scalar.muli v7 c2_i32_296
  let v519 : BitVec 32 := Scalar.addi c0_i32_297 v518
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v520 : BitVec 32 := Scalar.muli v5 c1_i32_298
  let v521 : BitVec 32 := Scalar.addi v519 v520
  v521.toNat
def k0_dev13 (d0 : Dev nD) : Nat :=
  let c0_i32_357 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_356 : BitVec 32 := 2#32
  let v603 : BitVec 32 := Scalar.muli v7 c2_i32_356
  let v604 : BitVec 32 := Scalar.addi c0_i32_357 v603
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_358 : BitVec 32 := 1#32
  let v605 : BitVec 32 := Scalar.muli v5 c1_i32_358
  let v606 : BitVec 32 := Scalar.addi v604 v605
  v606.toNat
def k0_dev14 (d0 : Dev nD) : Nat :=
  let c0_i32_417 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_416 : BitVec 32 := 2#32
  let v688 : BitVec 32 := Scalar.muli v7 c2_i32_416
  let v689 : BitVec 32 := Scalar.addi c0_i32_417 v688
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_418 : BitVec 32 := 1#32
  let v690 : BitVec 32 := Scalar.muli v5 c1_i32_418
  let v691 : BitVec 32 := Scalar.addi v689 v690
  v691.toNat
def k0_dev15 (d0 : Dev nD) : Nat :=
  let c0_i32_477 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_476 : BitVec 32 := 2#32
  let v773 : BitVec 32 := Scalar.muli v7 c2_i32_476
  let v774 : BitVec 32 := Scalar.addi c0_i32_477 v773
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_478 : BitVec 32 := 1#32
  let v775 : BitVec 32 := Scalar.muli v5 c1_i32_478
  let v776 : BitVec 32 := Scalar.addi v774 v775
  v776.toNat
def k0_dev16 (d0 : Dev nD) : Nat :=
  let c0_i32_537 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_536 : BitVec 32 := 2#32
  let v858 : BitVec 32 := Scalar.muli v7 c2_i32_536
  let v859 : BitVec 32 := Scalar.addi c0_i32_537 v858
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_538 : BitVec 32 := 1#32
  let v860 : BitVec 32 := Scalar.muli v5 c1_i32_538
  let v861 : BitVec 32 := Scalar.addi v859 v860
  v861.toNat
def k0_dev17 (d0 : Dev nD) : Nat :=
  let c0_i32_597 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_596 : BitVec 32 := 2#32
  let v943 : BitVec 32 := Scalar.muli v7 c2_i32_596
  let v944 : BitVec 32 := Scalar.addi c0_i32_597 v943
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_598 : BitVec 32 := 1#32
  let v945 : BitVec 32 := Scalar.muli v5 c1_i32_598
  let v946 : BitVec 32 := Scalar.addi v944 v945
  v946.toNat
def k0_dev18 (d0 : Dev nD) : Nat :=
  let c0_i32_657 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_656 : BitVec 32 := 2#32
  let v1028 : BitVec 32 := Scalar.muli v7 c2_i32_656
  let v1029 : BitVec 32 := Scalar.addi c0_i32_657 v1028
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_658 : BitVec 32 := 1#32
  let v1030 : BitVec 32 := Scalar.muli v5 c1_i32_658
  let v1031 : BitVec 32 := Scalar.addi v1029 v1030
  v1031.toNat
def k0_dev19 (d0 : Dev nD) : Nat :=
  let c0_i32_717 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_716 : BitVec 32 := 2#32
  let v1113 : BitVec 32 := Scalar.muli v7 c2_i32_716
  let v1114 : BitVec 32 := Scalar.addi c0_i32_717 v1113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_718 : BitVec 32 := 1#32
  let v1115 : BitVec 32 := Scalar.muli v5 c1_i32_718
  let v1116 : BitVec 32 := Scalar.addi v1114 v1115
  v1116.toNat
def k0_off2 (d0 : Dev nD) (c0_i32_741 : BitVec 32) : Fin 3 → Nat :=
  let c1_i32_725 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1123 : BitVec 32 := Scalar.subi c1_i32_725 v2
  let c8_i32_726 : BitVec 32 := 8#32
  let v1124 : BitVec 32 := Scalar.muli v1123 c8_i32_726
  let v1136 : BitVec 32 := Scalar.addi v1124 c0_i32_741
  let v1137 : Index := Scalar.indexCast v1136
  let c0_742 : Index := 0#32
  let c0_743 : Index := 0#32
  ![v1137.toNat, 0, 0]
abbrev stage0_0 : Fin 1 → Memref sig .tc .vmem S16x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "scale_log2e" => some (((1 / 8) * (Real.log 2)⁻¹ : ℝ) : EReal)
  | "step" => some ((1 / 127 : ℝ) : EReal)
  | _ => none
-- ==== ReferenceIdeal.lean ====
abbrev S2x1024x8x64 : Shape := ⟨4, ![2, 1024, 8, 64]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S2x8x1024x1024 : Shape := ⟨4, ![2, 8, 1024, 1024]⟩
abbrev S2x1024x8 : Shape := ⟨3, ![2, 1024, 8]⟩
abbrev S2x1024x8x1 : Shape := ⟨4, ![2, 1024, 8, 1]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S1024, .i32⟩
  | .hbm, ⟨4, _⟩ => ⟨S_, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1x1024, .i32⟩
  | .hbm, ⟨24, _⟩ => ⟨S1024x1024, .i32⟩
  | .hbm, ⟨25, _⟩ => ⟨S1024x1024, .i32⟩
  | .hbm, ⟨26, _⟩ => ⟨S1024x1024, .i1⟩
  | .hbm, ⟨27, _⟩ => ⟨S2x8x1024x1024, .f32⟩
  | .hbm, ⟨28, _⟩ => ⟨S2x1024x8x64, .f32⟩
  | .hbm, ⟨29, _⟩ => ⟨S_, .f32⟩
  | .hbm, ⟨30, _⟩ => ⟨S2x1024x8, .f32⟩
  | .hbm, ⟨31, _⟩ => ⟨S2x1024x8x1, .f32⟩
  | .hbm, ⟨32, _⟩ => ⟨S_, .f32⟩
  | .hbm, ⟨33, _⟩ => ⟨S2x1024x8x1, .f32⟩
  | .hbm, ⟨34, _⟩ => ⟨S2x1024x8x1, .f32⟩
  | .hbm, ⟨35, _⟩ => ⟨S2x1024x8x64, .f32⟩
  | .hbm, ⟨36, _⟩ => ⟨S2x1024x8x64, .f32⟩
  | .hbm, ⟨37, _⟩ => ⟨S_, .f32⟩
  | .hbm, ⟨38, _⟩ => ⟨S2x1024x8x64, .f32⟩
  | .hbm, ⟨39, _⟩ => ⟨S2x1024x8x64, .f32⟩
  | .hbm, ⟨40, _⟩ => ⟨S2x1024x8x64, .f32⟩
  | .hbm, ⟨41, _⟩ => ⟨S_, .f32⟩
  | .hbm, ⟨42, _⟩ => ⟨S2x1024x8x1, .f32⟩
  | .hbm, ⟨43, _⟩ => ⟨S2x1024x8x1, .f32⟩
  | .hbm, ⟨44, _⟩ => ⟨S2x1024x8x64, .f32⟩
  | .hbm, ⟨45, _⟩ => ⟨S2x1024x8x64, .f32⟩
  | .hbm, ⟨46, _⟩ => ⟨S2x8x1024x1024, .f32⟩
  | .hbm, ⟨47, _⟩ => ⟨S2x8x1024x1024, .i1⟩
  | .hbm, ⟨48, _⟩ => ⟨S2x8x1024x1024, .f32⟩
  | .hbm, ⟨49, _⟩ => ⟨S_, .f32⟩
  | .hbm, ⟨50, _⟩ => ⟨S2x8x1024x1024, .f32⟩
  | .hbm, ⟨51, _⟩ => ⟨S2x8x1024x1024, .f32⟩
  | .hbm, ⟨52, _⟩ => ⟨S_, .f32⟩
  | .hbm, ⟨53, _⟩ => ⟨S2x8x1024, .f32⟩
  | .hbm, ⟨54, _⟩ => ⟨S2x8x1024x1, .f32⟩
  | .hbm, ⟨55, _⟩ => ⟨S2x8x1024x1024, .f32⟩
  | .hbm, ⟨56, _⟩ => ⟨S2x8x1024x1024, .f32⟩
  | .hbm, ⟨57, _⟩ => ⟨S2x8x1024x1024, .f32⟩
  | .hbm, ⟨58, _⟩ => ⟨S_, .f32⟩
  | .hbm, ⟨59, _⟩ => ⟨S2x8x1024, .f32⟩
  | .hbm, ⟨60, _⟩ => ⟨S2x8x1024x1, .f32⟩
  | .hbm, ⟨61, _⟩ => ⟨S2x8x1024x1024, .f32⟩
  | .hbm, ⟨62, _⟩ => ⟨S2x8x1024x1024, .f32⟩
  | .hbm, ⟨63, _⟩ => ⟨S_, .f32⟩
  | .hbm, ⟨64, _⟩ => ⟨S_, .f32⟩
  | .hbm, ⟨65, _⟩ => ⟨S2x8x1024x1024, .i1⟩
  | .hbm, ⟨66, _⟩ => ⟨S2x8x1024x1024, .f32⟩
  | .hbm, ⟨67, _⟩ => ⟨S2x8x1024x1024, .f32⟩
  | .hbm, ⟨68, _⟩ => ⟨S2x8x64x1024, .f32⟩
  | .hbm, ⟨69, _⟩ => ⟨S2x1024x8x64, .f32⟩
  | .hbm, ⟨70, _⟩ => ⟨S_, .f32⟩
  | .hbm, ⟨71, _⟩ => ⟨S_, .f32⟩
  | .hbm, ⟨72, _⟩ => ⟨S2x8x1024x1024, .i1⟩
  | .hbm, ⟨73, _⟩ => ⟨S2x8x1024x1024, .f32⟩
  | .hbm, ⟨74, _⟩ => ⟨S2x8x1024x1024, .f32⟩
  | .hbm, ⟨75, _⟩ => ⟨S2x1024x8x64, .f32⟩
  | .hbm, ⟨76, _⟩ => ⟨S_, .f32⟩
  | .hbm, ⟨77, _⟩ => ⟨S2x1024x8, .f32⟩
  | .hbm, ⟨78, _⟩ => ⟨S2x1024x8x1, .f32⟩
  | .hbm, ⟨79, _⟩ => ⟨S_, .f32⟩
  | .hbm, ⟨80, _⟩ => ⟨S2x1024x8x1, .f32⟩
  | .hbm, ⟨81, _⟩ => ⟨S2x1024x8x1, .f32⟩
  | .hbm, ⟨82, _⟩ => ⟨S2x1024x8x64, .f32⟩
  | .hbm, ⟨83, _⟩ => ⟨S2x1024x8x64, .f32⟩
  | .hbm, ⟨84, _⟩ => ⟨S_, .f32⟩
  | .hbm, ⟨85, _⟩ => ⟨S2x1024x8x64, .f32⟩
  | .hbm, ⟨86, _⟩ => ⟨S2x1024x8x64, .f32⟩
  | .hbm, ⟨87, _⟩ => ⟨S2x1024x8x64, .f32⟩
  | .hbm, ⟨88, _⟩ => ⟨S_, .f32⟩
  | .hbm, ⟨89, _⟩ => ⟨S2x1024x8x1, .f32⟩
  | .hbm, ⟨90, _⟩ => ⟨S2x1024x8x1, .f32⟩
  | .hbm, ⟨91, _⟩ => ⟨S2x1024x8x64, .f32⟩
  | .hbm, ⟨92, _⟩ => ⟨S2x1024x8x64, .f32⟩
  | .hbm, ⟨93, _⟩ => ⟨S2x8x64x1024, .f32⟩
  | .hbm, ⟨94, _⟩ => ⟨S2x1024x8x64, .f32⟩
  | .hbm, ⟨95, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call2_v0 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_6 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_7 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_v38 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev main_v41 : Ref sig .tc := ⟨.hbm, 78, rfl⟩
abbrev main_cst_9 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_cst_11 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Launch
public import proofs.«01_k».proof.Proof.Gen.KernelIdeal.Points

@[expose] public section

/-! # The kernel's body, head by head

The printed body is one straight line of some four hundred memory operations. It is written again here as
what one head does, at a head `j` that is a variable, run over the eight heads in turn; `body_eq` says that
the two are the same program. -/

noncomputable section

namespace Cert.KernelIdeal.Attn

open Idealize.ShloMosaic Idealize.SL.Sem Cert.KernelIdeal Cert.KernelIdeal.Gen

variable {F : FTy → Type} [FloatOps F] [Named F]

/-! ## The values one head computes -/

/-- A head's keys or values, at the wide format. -/
def wide (k : Vec F S1x512x64 .bf16) : FVec F S512x64 .f32 :=
  extf .f32 (shapeCast S512x64 k shapeCasts_S1x512x64_S512x64 : FVec F S512x64 .bf16) bitsLt_bf16_f32
/-- The largest magnitude of each row, and no less than `1e-6`. -/
def top (t : FVec F S512x64 .f32) : FVec F S512x1 .f32 :=
  maximumf (shapeCast S512x1 (multiReduction .maximumf [1] S512 (absf t) 0xFF800000#32 reduces_S512x64_S512 (.inl rfl) rfl)
    shapeCasts_S512_S512x1) (broadcast S512x1 (Scalar.ofBits .f32 0x358637BD#32))
/-- Each row scaled so that its largest magnitude is 127, and rounded. -/
def rounded (t : FVec F S512x64 .f32) : FVec F S512x64 .f32 :=
  roundeven (mulf t (broadcastTo S512x64 (divf (broadcast S512x1 (Scalar.ofBits .f32 0x42FE0000#32)) (top t)) broadcasts_S512x1_S512x64))
/-- The codes of a head's keys and values, side by side. -/
def codes (k v : Vec F S1x512x64 .bf16) : IVec S1x512x128 8 :=
  shapeCast S1x512x128 (fptosi 8 (concatenate S512x128 1 [⟨S512x64, rounded (wide k)⟩, ⟨S512x64, rounded (wide v)⟩]
    concatenates_S512x64_S512x64_S512x128_d1)) shapeCasts_S512x128_S1x512x128
/-- The step of each row of the keys and of the values. -/
def steps (k v : Vec F S1x512x64 .bf16) : FVec F S1x512x2 .bf16 :=
  shapeCast S1x512x2 (truncf .bf16 (mulf (concatenate S512x2 1 [⟨S512x1, top (wide k)⟩, ⟨S512x1, top (wide v)⟩]
    concatenates_S512x1_S512x1_S512x2_d1) (broadcast S512x2 (Named.named κ "step" 0x3C010204#32))) bitsLt_bf16_f32)
    shapeCasts_S512x2_S1x512x2
/-- The exponentials of the scaled products of a head's queries with keys `k`. -/
def weights (q : Vec F S1x512x64 .f32) (k : FVec F S512x64 .bf16) : FVec F S512x512 .bf16 :=
  truncf .bf16 (exp2 (matmul dot_S512x64_S512x64_S512x512_1_1_0_0_n_n none
    (truncf .bf16 (mulf (shapeCast S512x64 q shapeCasts_S1x512x64_S512x64)
      (broadcast S512x64 (Named.named κ "scale_log2e" 0x3E38AA3B#32))) bitsLt_bf16_f32)
    k (constant S512x512 .f32 0x00000000#32))) bitsLt_bf16_f32
/-- The weighted values and, in the last column, the sum of the weights. -/
def weighted (e : FVec F S512x512 .bf16) (v : FVec F S512x64 .bf16) : FVec F S512x65 .f32 :=
  matmul dot_S512x512_S512x65_S512x65_1_0_0_1_n_n none e
    (concatenate S512x65 1 [⟨S512x64, v⟩, ⟨S512x1, (broadcast S512x1 (Scalar.ofBits .bf16 0x3F80#16) : FVec F S512x1 .bf16)⟩]
      concatenates_S512x64_S512x1_S512x65_d1) (constant S512x65 .f32 0x00000000#32)
/-- What a head's queries draw from this device's own keys and values. -/
def ownPart (k : Vec F S1x512x64 .bf16) (q : Vec F S1x512x64 .f32) (v : Vec F S1x512x64 .bf16) : FVec F S1x512x65 .f32 :=
  shapeCast S1x512x65 (weighted (weights q (shapeCast S512x64 k shapeCasts_S1x512x64_S512x64))
    (shapeCast S512x64 v shapeCasts_S1x512x64_S512x64)) shapeCasts_S512x65_S1x512x65
/-- The keys that a head's codes and steps stand for. -/
def keysOf (sc : Vec F S1x512x2 .bf16) (kv : Vec F S1x512x128 .i8) : FVec F S512x64 .bf16 :=
  mulf (sitofp .bf16 (extractStridedSlice S512x64 ![0, 0] (shapeCast S512x128 kv shapeCasts_S1x512x128_S512x128 : IVec S512x128 8) slices_S512x128_o0_0_S512x64))
    (broadcastTo S512x64 (extractStridedSlice S512x1 ![0, 0] (shapeCast S512x2 sc shapeCasts_S1x512x2_S512x2 : FVec F S512x2 .bf16) slices_S512x2_o0_0_S512x1)
      broadcasts_S512x1_S512x64)
/-- The values that a head's codes and steps stand for. -/
def valuesOf (sc : Vec F S1x512x2 .bf16) (kv : Vec F S1x512x128 .i8) : FVec F S512x64 .bf16 :=
  mulf (sitofp .bf16 (extractStridedSlice S512x64 ![0, 64] (shapeCast S512x128 kv shapeCasts_S1x512x128_S512x128 : IVec S512x128 8) slices_S512x128_o0_64_S512x64))
    (broadcastTo S512x64 (extractStridedSlice S512x1 ![0, 1] (shapeCast S512x2 sc shapeCasts_S1x512x2_S512x2 : FVec F S512x2 .bf16) slices_S512x2_o0_1_S512x1)
      broadcasts_S512x1_S512x64)
/-- What a head's queries draw from the other half's keys and values. -/
def peerPart (sc : Vec F S1x512x2 .bf16) (kv kv' : Vec F S1x512x128 .i8) (q : Vec F S1x512x64 .f32) : FVec F S512x65 .f32 :=
  weighted (weights q (keysOf sc kv)) (valuesOf sc kv')
/-- The two parts added, and divided by the sum of the weights. -/
def joined (p : FVec F S512x65 .f32) (a : Vec F S1x512x65 .f32) : FVec F S512x64 .f32 :=
  mulf (extractStridedSlice S512x64 ![0, 0] (addf (shapeCast S512x65 a shapeCasts_S1x512x65_S512x65) p) slices_S512x65_o0_0_S512x64)
    (broadcastTo S512x64 (divf (broadcast S512x1 (Scalar.ofBits .f32 0x3F800000#32))
      (extractStridedSlice S512x1 ![0, 64] (addf (shapeCast S512x65 a shapeCasts_S1x512x65_S512x65) p) slices_S512x65_o0_64_S512x1))
      broadcasts_S512x1_S512x64)
/-- A head's result. -/
def result (p : FVec F S512x65 .f32) (a : Vec F S1x512x65 .f32) : FVec F S1x512x64 .f32 :=
  shapeCast S1x512x64 (joined p a) shapeCasts_S512x64_S1x512x64
/-- A head's result, as it goes to the device that holds the other heads. -/
def resultSent (p : FVec F S512x65 .f32) (a : Vec F S1x512x65 .f32) : FVec F S1x512x64 .bf16 :=
  shapeCast S1x512x64 (truncf .bf16 (joined p a) bitsLt_bf16_f32) shapeCasts_S512x64_S1x512x64
/-- A head's result, as it came from there. -/
def resultGot (o : Vec F S1x512x64 .bf16) : FVec F S1x512x64 .f32 :=
  shapeCast S1x512x64 (extf .f32 (shapeCast S512x64 o shapeCasts_S1x512x64_S512x64 : FVec F S512x64 .bf16) bitsLt_bf16_f32)
    shapeCasts_S512x64_S1x512x64

/-! ## The buffers and the devices -/

abbrev qM : Memref sig .tc .vmem S16x512x64 .f32 := Memref.whole cc0_stg0_0
abbrev kM : Memref sig .tc .vmem S16x512x64 .bf16 := Memref.whole cc0_stg1_0
abbrev vM : Memref sig .tc .vmem S16x512x64 .bf16 := Memref.whole cc0_stg2_0
abbrev oM : Memref sig .tc .vmem S16x512x64 .f32 := Memref.whole cc0_stg3_0
/-- The codes to send, and those that arrive. -/
abbrev kvS : Memref sig .tc .vmem S8x512x128 .i8 := Memref.whole cc0_scratch0
abbrev kvR : Memref sig .tc .vmem S8x512x128 .i8 := Memref.whole cc0_scratch2
/-- The steps to send, and those that arrive. -/
abbrev scS : Memref sig .tc .vmem S8x512x2 .bf16 := Memref.whole cc0_scratch1
abbrev scR : Memref sig .tc .vmem S8x512x2 .bf16 := Memref.whole cc0_scratch3
abbrev acM : Memref sig .tc .vmem S8x512x65 .f32 := Memref.whole cc0_scratch4
/-- The results to send, and those that arrive. -/
abbrev oxS : Memref sig .tc .vmem S8x512x64 .bf16 := Memref.whole cc0_scratch5
abbrev oxR : Memref sig .tc .vmem S8x512x64 .bf16 := Memref.whole cc0_scratch6

abbrev barS : Sem sig := (SemArray.scalar (sig.barrier 0 rfl) : Sems sig S_).sem

/-- The device that holds the other half of the sequence. -/
abbrev across (d : Dev nD) : Dev nD := ⟨k0_dev1 d, k0_dev1_lt d⟩
/-- The device that computes the other heads. -/
abbrev beside (d : Dev nD) : Dev nD := ⟨k0_dev2 d, k0_dev2_lt d⟩

theorem inb8 (j : Fin 8) : ∀ a, (![j.val] : Fin 1 → Nat) a + S1.size a ≤ S8.size a := by revert j; decide
theorem inbK (j : Fin 8) : ∀ a, (![j.val, 0, 0] : Fin 3 → Nat) a + S1x512x128.size a ≤ S8x512x128.size a := by revert j; decide
theorem inbC (j : Fin 8) : ∀ a, (![j.val, 0, 0] : Fin 3 → Nat) a + S1x512x2.size a ≤ S8x512x2.size a := by revert j; decide
theorem inbA (j : Fin 8) : ∀ a, (![j.val, 0, 0] : Fin 3 → Nat) a + S1x512x65.size a ≤ S8x512x65.size a := by revert j; decide
theorem inbO (j : Fin 8) : ∀ a, (![j.val, 0, 0] : Fin 3 → Nat) a + S1x512x64.size a ≤ S8x512x64.size a := by revert j; decide

/-- Head `j`'s place in each of the arrays of eight heads. -/
abbrev rK (j : Fin 8) : Rect S8x512x128 := Rect.unit (s := S8x512x128) ![j.val, 0, 0] S1x512x128.size (inbK j)
abbrev rC (j : Fin 8) : Rect S8x512x2 := Rect.unit (s := S8x512x2) ![j.val, 0, 0] S1x512x2.size (inbC j)
abbrev rA (j : Fin 8) : Rect S8x512x65 := Rect.unit (s := S8x512x65) ![j.val, 0, 0] S1x512x65.size (inbA j)
abbrev rO (j : Fin 8) : Rect S8x512x64 := Rect.unit (s := S8x512x64) ![j.val, 0, 0] S1x512x64.size (inbO j)
/-- Head `j` of those that device `d` computes, and of those that it receives, in the arrays of sixteen heads. -/
abbrev rMine (d : Dev nD) (j : Fin 8) : Rect S16x512x64 :=
  Rect.unit (s := S16x512x64) (k0_off1 d (BitVec.ofNat 32 j.val)) S1x512x64.size (k0_off1_inb d j)
abbrev rTheirs (d : Dev nD) (j : Fin 8) : Rect S16x512x64 :=
  Rect.unit (s := S16x512x64) (k0_off2 d (BitVec.ofNat 32 j.val)) S1x512x64.size (k0_off2_inb d j)

theorem packedK (j : Fin 8) : (rK j).PackedRows (EltTy.packing .i8) := by revert j; decide
theorem packedC (j : Fin 8) : (rC j).PackedRows (EltTy.packing .bf16) := by revert j; decide
theorem packedO (j : Fin 8) : (rO j).PackedRows (EltTy.packing .bf16) := by revert j; decide
theorem wordsK (j : Fin 8) : (rK j).WholeWords (EltTy.packing .i8) := by revert j; decide
theorem wordsO (j : Fin 8) : (rO j).WholeWords (EltTy.packing .bf16) := by revert j; decide

/-- Head `j`'s slot of an array of codes, and of an array of results. -/
abbrev slotK (M : Memref sig .tc .vmem S8x512x128 .i8) (j : Fin 8) : Memref sig .tc .vmem S1x512x128 .i8 := M.slice (rK j) (fun _ => rfl)
abbrev slotO (M : Memref sig .tc .vmem S8x512x64 .bf16) (j : Fin 8) : Memref sig .tc .vmem S1x512x64 .bf16 := M.slice (rO j) (fun _ => rfl)
/-- Head `j`'s semaphore of an array of eight. -/
abbrev semOf (S : DmaSems sig S8) (j : Fin 8) : DmaSem sig :=
  ((S.slice (Rect.unit (s := S8) ![j.val] S1.size (inb8 j))).squeeze S_ squeezes_S1_S_ : DmaSems sig S_).sem

/-! ## What one head does -/

/-- A program of one core. -/
abbrev Piece (F : FTy → Type) [FloatOps F] [Named F] := Prog (TpuEff nD τ sig (Elt F) Λ₀ .tc) PUnit

/-- Tell the two neighbours that this device's landing areas are theirs. -/
def announce (d : Dev nD) : Piece F := do
  semSignalWord (across d) barS 1#32
  semSignalWord (beside d) barS 1#32

/-- Quantise head `j`'s keys and values. -/
def quantise (d : Dev nD) (j : Fin 8) : Piece F := do
  let k : Vec F S1x512x64 .bf16 ← Prog.lift (.load kM (rMine d j).toLoadRect (View.loadsAt_vmem h_S1x512x64))
  let v : Vec F S1x512x64 .bf16 ← Prog.lift (.load vM (rMine d j).toLoadRect (View.loadsAt_vmem h_S1x512x64))
  let _ : Vec F S1x512x128 .i8 ← Prog.lift (.load kvS (rK j).toLoadRect (View.loadsAt_vmem h_S1x512x128))
  Prog.lift (.store kvS (rK j) (codes k v) Finset.univ
    (View.stores_vmem h_S1x512x128 ((Memref.isWhole_whole cc0_scratch0).storeExact_slice rfl _ (packedK j)) (fun _ => rfl)) (.inl rfl))
  let _ : Vec F S1x512x2 .bf16 ← Prog.lift (.load scS (rC j).toLoadRect (View.loadsAt_vmem h_S1x512x2))
  Prog.lift (.store scS (rC j) (steps k v) Finset.univ
    (View.stores_vmem h_S1x512x2 ((Memref.isWhole_whole cc0_scratch1).storeExact_slice rfl _ (packedC j)) (fun _ => rfl)) (.inl rfl))

/-- Wait for both neighbours. -/
def assemble : Piece F := semWaitWord barS 2#32

/-- Send the steps of all heads. -/
def sendSteps (d : Dev nD) : Piece F :=
  Prog.lift (.enqueueDma scS (.remote (Dev.tc (across d)) scR (.dma cc0_scratch9.sem)) (.dma cc0_scratch10.sem)
    (Memref.isWhole_whole cc0_scratch1).wordExact (Memref.isWhole_whole cc0_scratch3).wordExact ⟨⟨rfl, Or.inl rfl⟩, trivial⟩)

/-- Send head `j`'s codes. -/
def sendCodes (d : Dev nD) (j : Fin 8) : Piece F :=
  Prog.lift (.enqueueDma (slotK kvS j) (.remote (Dev.tc (across d)) (slotK kvR j) (.dma (semOf cc0_scratch7 j))) (.dma (semOf cc0_scratch8 j))
    ((Memref.isWhole_whole cc0_scratch0).wordExact_slice rfl _ (wordsK j))
    ((Memref.isWhole_whole cc0_scratch2).wordExact_slice rfl _ (wordsK j)) ⟨⟨rfl, Or.inl rfl⟩, trivial⟩)

/-- Attend to this device's own keys and values. -/
def attendOwn (d : Dev nD) (j : Fin 8) : Piece F := do
  let k : Vec F S1x512x64 .bf16 ← Prog.lift (.load kM (rMine d j).toLoadRect (View.loadsAt_vmem h_S1x512x64))
  let q : Vec F S1x512x64 .f32 ← Prog.lift (.load qM (rMine d j).toLoadRect (View.loadsAt_vmem h_S1x512x64))
  let v : Vec F S1x512x64 .bf16 ← Prog.lift (.load vM (rMine d j).toLoadRect (View.loadsAt_vmem h_S1x512x64))
  let _ : Vec F S1x512x65 .f32 ← Prog.lift (.load acM (rA j).toLoadRect (View.loadsAt_vmem h_S1x512x65))
  Prog.lift (.store acM (rA j) (ownPart k q v) Finset.univ (View.stores_vmem_bits_univ h_S1x512x65 rfl) (.inl rfl))

/-- Wait for the steps. -/
def awaitSteps : Piece F :=
  Prog.lift (.waitDma2 cc0_scratch10.sem scS scR (Memref.isWhole_whole cc0_scratch1).wordExact (Memref.isWhole_whole cc0_scratch3).wordExact)

/-- Wait for head `j`'s codes. -/
def awaitCodes (j : Fin 8) : Piece F :=
  Prog.lift (.waitDma2 (semOf cc0_scratch8 j) (slotK kvS j) (slotK kvR j)
    ((Memref.isWhole_whole cc0_scratch0).wordExact_slice rfl _ (wordsK j))
    ((Memref.isWhole_whole cc0_scratch2).wordExact_slice rfl _ (wordsK j)))

/-- Attend to the other half, and finish head `j`. -/
def attendPeer (d : Dev nD) (j : Fin 8) : Piece F := do
  let sc : Vec F S1x512x2 .bf16 ← Prog.lift (.load scR (rC j).toLoadRect (View.loadsAt_vmem h_S1x512x2))
  let kv : Vec F S1x512x128 .i8 ← Prog.lift (.load kvR (rK j).toLoadRect (View.loadsAt_vmem h_S1x512x128))
  let kv' : Vec F S1x512x128 .i8 ← Prog.lift (.load kvR (rK j).toLoadRect (View.loadsAt_vmem h_S1x512x128))
  let q : Vec F S1x512x64 .f32 ← Prog.lift (.load qM (rMine d j).toLoadRect (View.loadsAt_vmem h_S1x512x64))
  let a : Vec F S1x512x65 .f32 ← Prog.lift (.load acM (rA j).toLoadRect (View.loadsAt_vmem h_S1x512x65))
  let _ : Vec F S1x512x64 .f32 ← Prog.lift (.load oM (rMine d j).toLoadRect (View.loadsAt_vmem h_S1x512x64))
  Prog.lift (.store oM (rMine d j) (result (peerPart sc kv kv' q) a) Finset.univ (View.stores_vmem_bits_univ h_S1x512x64 rfl) (.inl rfl))
  let _ : Vec F S1x512x64 .bf16 ← Prog.lift (.load oxS (rO j).toLoadRect (View.loadsAt_vmem h_S1x512x64))
  Prog.lift (.store oxS (rO j) (resultSent (peerPart sc kv kv' q) a) Finset.univ
    (View.stores_vmem h_S1x512x64 ((Memref.isWhole_whole cc0_scratch5).storeExact_slice rfl _ (packedO j)) (fun _ => rfl)) (.inl rfl))

/-- Send head `j`'s result. -/
def sendResult (d : Dev nD) (j : Fin 8) : Piece F :=
  Prog.lift (.enqueueDma (slotO oxS j) (.remote (Dev.tc (beside d)) (slotO oxR j) (.dma (semOf cc0_scratch11 j))) (.dma (semOf cc0_scratch12 j))
    ((Memref.isWhole_whole cc0_scratch5).wordExact_slice rfl _ (wordsO j))
    ((Memref.isWhole_whole cc0_scratch6).wordExact_slice rfl _ (wordsO j)) ⟨⟨rfl, Or.inl rfl⟩, trivial⟩)

/-- Wait for head `j` of the others, and put it in its place. -/
def receive (d : Dev nD) (j : Fin 8) : Piece F := do
  Prog.lift (.waitDma2 (semOf cc0_scratch12 j) (slotO oxS j) (slotO oxR j)
    ((Memref.isWhole_whole cc0_scratch5).wordExact_slice rfl _ (wordsO j))
    ((Memref.isWhole_whole cc0_scratch6).wordExact_slice rfl _ (wordsO j)))
  let o : Vec F S1x512x64 .bf16 ← Prog.lift (.load oxR (rO j).toLoadRect (View.loadsAt_vmem h_S1x512x64))
  let _ : Vec F S1x512x64 .f32 ← Prog.lift (.load oM (rTheirs d j).toLoadRect (View.loadsAt_vmem h_S1x512x64))
  Prog.lift (.store oM (rTheirs d j) (resultGot o) Finset.univ (View.stores_vmem_bits_univ h_S1x512x64 rfl) (.inl rfl))

/-- Wait until the steps have left. -/
def drainSteps : Piece F :=
  Prog.lift (.waitDma2 cc0_scratch9.sem scR scS (Memref.isWhole_whole cc0_scratch3).wordExact (Memref.isWhole_whole cc0_scratch1).wordExact)

/-- Wait until head `j`'s codes and its result have left. -/
def drain (j : Fin 8) : Piece F := do
  Prog.lift (.waitDma2 (semOf cc0_scratch7 j) (slotK kvR j) (slotK kvS j)
    ((Memref.isWhole_whole cc0_scratch2).wordExact_slice rfl _ (wordsK j))
    ((Memref.isWhole_whole cc0_scratch0).wordExact_slice rfl _ (wordsK j)))
  Prog.lift (.waitDma2 (semOf cc0_scratch11 j) (slotO oxR j) (slotO oxS j)
    ((Memref.isWhole_whole cc0_scratch6).wordExact_slice rfl _ (wordsO j))
    ((Memref.isWhole_whole cc0_scratch5).wordExact_slice rfl _ (wordsO j)))

/-! ## The heads in turn -/

/-- `f` at each head of a list, in order. -/
def inTurn (f : Fin 8 → Piece F) : List (Fin 8) → Piece F
  | [] => pure ⟨⟩
  | j :: l => do f j; inTurn f l

abbrev heads : List (Fin 8) := [0, 1, 2, 3, 4, 5, 6, 7]

/-- Head `j` from its own part to the sending of its result, once the steps are here. -/
def attend (d : Dev nD) (j : Fin 8) : Piece F := do
  attendOwn d j
  awaitCodes j
  attendPeer d j
  sendResult d j

/-- The first head: the steps are waited for after its own part. -/
def attendFirst (d : Dev nD) : Piece F := do
  attendOwn d 0
  awaitSteps
  awaitCodes 0
  attendPeer d 0
  sendResult d 0

/-- The whole body on device `d`. -/
def kernelOn (d : Dev nD) : Piece F := do
  announce d
  inTurn (quantise d) heads
  assemble
  sendSteps d
  inTurn (sendCodes d) heads
  attendFirst d
  inTurn (attend d) [1, 2, 3, 4, 5, 6, 7]
  inTurn (receive d) heads
  drainSteps
  inTurn drain heads

set_option maxRecDepth 65536 in
/-- The printed body is the heads in turn. -/
theorem body_eq (t : Fin cfg0.N) : (bodyAt0 t : Piece F) = (do let d ← Prog.lift .deviceId; kernelOn d) := by
  obtain rfl := fin_N0 t
  rfl

end Cert.KernelIdeal.Attn

end
-- ==== Proof.Numbers.lean ====
module

public import Idealize.ShloMosaic.PureOps.Ideal
public import Idealize.ShloMosaic.PureOps.Ideal.Laws
public import Idealize.ShloMosaic.Lib.IdealHost

@[expose] public section

/-! # The numbers

What a head computes, over the reals and, of the values, over the extended reals: the quantiser of a row and the attention of one query over two
halves of keys, the nearer half as it is and the farther one through the quantiser. -/

noncomputable section

namespace Cert.Numbers

open Idealize.ShloMosaic

/-! ## Extended reals that are real -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_div (a : ℝ) {b : ℝ} (hb : b ≠ 0) : Ideal.div (a : EReal) (b : EReal) = ((a / b : ℝ) : EReal) := by
  rw [Ideal.div_coe hb, ← EReal.coe_mul, mul_one_div]

theorem coe_abs (a : ℝ) : max (a : EReal) (-(a : EReal)) = ((|a| : ℝ) : EReal) := by
  rw [← EReal.coe_neg, ← EReal.coe_strictMono.monotone.map_max]; rfl

/-- The greatest of finitely many reals. -/
def greatest {n : ℕ} (f : Fin (n + 1) → ℝ) : ℝ := Finset.univ.sup' ⟨0, Finset.mem_univ _⟩ f
theorem le_greatest {n : ℕ} (f : Fin (n + 1) → ℝ) (i : Fin (n + 1)) : f i ≤ greatest f := Finset.le_sup' f (Finset.mem_univ i)
theorem fold_max {n : ℕ} (f : Fin (n + 1) → ℝ) :
    Finset.fold max (⊥ : EReal) (fun i => (f i : EReal)) Finset.univ = (greatest f : EReal) := by
  apply le_antisymm
  · rw [Finset.fold_max_le]
    exact ⟨bot_le, fun i _ => EReal.coe_le_coe_iff.mpr (le_greatest f i)⟩
  · rw [Finset.le_fold_max]
    obtain ⟨i, -, hi⟩ := Finset.exists_mem_eq_sup' (s := Finset.univ) ⟨0, Finset.mem_univ _⟩ f
    exact .inr ⟨i, Finset.mem_univ i, EReal.coe_le_coe_iff.mpr hi.le⟩

theorem fold_top {n : ℕ} {f : Fin n → EReal} {i : Fin n} (h : f i = ⊤) : Finset.fold max (⊥ : EReal) f Finset.univ = ⊤ :=
  top_le_iff.mp ((Finset.le_fold_max _).mpr (.inr ⟨i, Finset.mem_univ i, h.ge⟩))

/-- A row of reals, or one of its magnitudes is infinite. -/
theorem infinite_of_not {n : ℕ} {f : Fin n → EReal} (h : ¬ ∀ i, f i = ((f i).toReal : EReal)) : ∃ i, max (f i) (-(f i)) = ⊤ := by
  obtain ⟨i, hi⟩ := not_forall.mp h
  refine ⟨i, ?_⟩
  generalize f i = x at hi
  induction x with
  | bot => simp
  | top => simp
  | coe r => exact absurd rfl hi

/-- A real that is not negative multiplies a sum term by term. -/
theorem sum_mul {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.mpr hc) (EReal.coe_ne_top c), ih]

/-! ## The constants -/

/-- The least divisor of the quantiser: the float nearest to one millionth. -/
def least : ℝ := 8796093 / 2 ^ 43
theorem least_pos : 0 < least := by unfold least; positivity
theorem least_eq : Ideal.ofBits .f32 0x358637BD#32 = (least : EReal) := by
  unfold least
  simp [Ideal.ofBits, Ideal.ieee, -EReal.coe_mul]; norm_num
theorem levels_eq : Ideal.ofBits .f32 0x42FE0000#32 = ((127 : ℝ) : EReal) := by
  simp [Ideal.ofBits, Ideal.ieee, -EReal.coe_mul]; norm_num
theorem eighth_eq : Ideal.ofBits .f32 0x3E000000#32 = ((1 / 8 : ℝ) : EReal) := by
  simp [Ideal.ofBits, Ideal.ieee, -EReal.coe_mul]; norm_num
theorem lowest_eq : Ideal.ofBits .f32 0xFF800000#32 = (⊥ : EReal) := by
  simp [Ideal.ofBits, Ideal.ieee]

/-! ## The quantiser -/

/-- The largest magnitude of a row, and no less than `least`. -/
def rowTop (r : Fin 64 → ℝ) : ℝ := max (greatest (n := 63) fun e => |r e|) least
theorem rowTop_pos (r : Fin 64 → ℝ) : 0 < rowTop r := lt_max_of_lt_right least_pos
theorem abs_le_rowTop (r : Fin 64 → ℝ) (e : Fin 64) : |r e| ≤ rowTop r :=
  (le_greatest (n := 63) (fun e => |r e|) e).trans (le_max_left _ _)

/-- An entry's code, and the number that the code stands for. -/
def code (r : Fin 64 → ℝ) (e : Fin 64) : ℤ := Ideal.roundHalfEven (r e / rowTop r * 127)
def through (r : Fin 64 → ℝ) (e : Fin 64) : ℝ := (code r e : ℝ) * (rowTop r / 127)

/-- The quantiser on any row: one with an infinite entry gives zeros. -/
def quantise (v : Fin 64 → EReal) (e : Fin 64) : EReal :=
  open Classical in if ∀ i, v i = ((v i).toReal : EReal) then (through (fun i => (v i).toReal) e : EReal) else 0
theorem quantise_coe (r : Fin 64 → ℝ) (e : Fin 64) : quantise (fun i => (r i : EReal)) e = (through r e : EReal) := by
  unfold quantise
  exact if_pos fun _ => rfl

theorem round_le {x : ℝ} {n : ℤ} (h : x ≤ n) : Ideal.roundHalfEven x ≤ n := by
  have hf : ⌊x⌋ ≤ n := Int.floor_le_iff.mpr (h.trans_lt (by linarith))
  rcases hf.lt_or_eq with hlt | he
  · unfold Ideal.roundHalfEven
    dsimp only
    split_ifs <;> omega
  · have hx : x - ⌊x⌋ = 0 := by
      have := Int.floor_le x
      rw [he] at this ⊢
      linarith
    unfold Ideal.roundHalfEven
    dsimp only
    rw [hx, if_pos (by norm_num)]
    exact hf
theorem le_round {x : ℝ} {n : ℤ} (h : (n : ℝ) ≤ x) : n ≤ Ideal.roundHalfEven x := by
  have hf : n ≤ ⌊x⌋ := Int.le_floor.mpr h
  unfold Ideal.roundHalfEven
  dsimp only
  split_ifs <;> omega

theorem code_bounds (r : Fin 64 → ℝ) (e : Fin 64) : -127 ≤ code r e ∧ code r e ≤ 127 := by
  have hT := rowTop_pos r
  obtain ⟨h1, h2⟩ := abs_le.mp (abs_le_rowTop r e)
  have hu : r e / rowTop r ≤ 1 := (div_le_one hT).mpr h2
  have hl : -1 ≤ r e / rowTop r := by rw [le_div_iff₀ hT]; linarith
  exact ⟨le_round (by push_cast; linarith), round_le (by push_cast; linarith)⟩

/-- A code as a word of 8 bits is read back as the code. -/
theorem code_word {z : ℤ} (h1 : -127 ≤ z) (h2 : z ≤ 127) :
    (BitVec.ofInt 8 (Ideal.toIntClamped (-(2 ^ (8 - 1) : ℕ)) ((2 ^ (8 - 1) : ℕ) - 1) (((z : ℤ) : ℝ) : EReal))).toInt = z := by
  have : Ideal.toIntClamped (-(2 ^ (8 - 1) : ℕ)) ((2 ^ (8 - 1) : ℕ) - 1) (((z : ℤ) : ℝ) : EReal) = z := by
    rw [Ideal.toIntClamped_coe, Int.floor_intCast, Int.ceil_intCast, ite_self]
    norm_num
    omega
  rw [this, BitVec.toInt_ofInt]
  exact Int.bmod_eq_of_le (by norm_num; omega) (by norm_num; omega)

/-! ## Attention of one query -/

/-- The scaled product of a query with a key. -/
def score (q k : Fin 64 → ℝ) : ℝ := 1 / 8 * ∑ e, q e * k e

/-- The power of two that the kernel takes is the exponential of the scaled product. -/
theorem exp2_score (q k : Fin 64 → ℝ) : Real.rpow 2 (∑ e, q e * (1 / 8 * (Real.log 2)⁻¹) * k e) = Real.exp (score q k) := by
  have h2 : Real.log 2 ≠ 0 := (Real.log_pos (by norm_num)).ne'
  show (2 : ℝ) ^ (∑ e, q e * (1 / 8 * (Real.log 2)⁻¹) * k e) = _
  rw [Real.rpow_def_of_pos (by norm_num)]
  unfold score
  rw [Finset.mul_sum, Finset.mul_sum]
  congr 1
  refine Finset.sum_congr rfl fun e _ => ?_
  field_simp

/-- The weights of a half of the keys. -/
def weigh (q : Fin 64 → ℝ) (k : Fin 512 → Fin 64 → ℝ) : ℝ := ∑ r, Real.exp (score q (k r))
theorem weigh_pos (q : Fin 64 → ℝ) (k : Fin 512 → Fin 64 → ℝ) : 0 < weigh q k :=
  Finset.sum_pos (fun r _ => Real.exp_pos _) ⟨0, Finset.mem_univ _⟩
/-- The values of a half, weighted. -/
def gather (q : Fin 64 → ℝ) (k : Fin 512 → Fin 64 → ℝ) (v : Fin 512 → Fin 64 → EReal) (e : Fin 64) : EReal :=
  ∑ r, (Real.exp (score q (k r)) : EReal) * v r e

/-- A query's result: over the nearer half as it is, and over the farther half through the quantiser. -/
def attend (q : Fin 64 → ℝ) (k : Fin 512 → Fin 64 → ℝ) (v : Fin 512 → Fin 64 → EReal) (k' : Fin 512 → Fin 64 → ℝ)
    (v' : Fin 512 → Fin 64 → EReal) (e : Fin 64) : EReal :=
  (gather q k v e + gather q (fun r => through (k' r)) (fun r => quantise (v' r)) e) *
    ((1 / (weigh q k + weigh q fun r => through (k' r)) : ℝ) : EReal)

end Cert.Numbers

end
-- ==== Proof.Heads.lean ====
module

public import proofs.«01_k».proof.Proof.Body
public import proofs.«01_k».proof.Proof.Numbers
public import Idealize.ShloMosaic.Lib.Pointwise
public import Idealize.ShloMosaic.Lib.IdealHost

@[expose] public section

/-! # What a head computes, in numbers

Each value of a head, read at an index, for queries and keys that are real and values that may be infinite: the codes and the steps stand for the
quantised rows, the weights are the exponentials of the scaled products, and a head's result is the attention of its
queries over the two halves. -/

set_option maxRecDepth 16384

noncomputable section

namespace Cert.KernelIdeal.Attn

open Idealize.ShloMosaic Cert.KernelIdeal Cert.KernelIdeal.Gen Cert Cert.Numbers

theorem step_eq : Named.named (F := Ideal) (φ := .f32) κ "step" 0x3C010204#32 = ((1 / 127 : ℝ) : EReal) :=
  IdealRules.named_const.ideal_named_scalar (φ := .f32) κ "step" 0x3C010204#32 _ rfl
theorem scale_eq : Named.named (F := Ideal) (φ := .f32) κ "scale_log2e" 0x3E38AA3B#32 = (((1 / 8) * (Real.log 2)⁻¹ : ℝ) : EReal) :=
  IdealRules.named_const.ideal_named_scalar (φ := .f32) κ "scale_log2e" 0x3E38AA3B#32 _ rfl

/-! ## The quantiser -/

section
variable (t : FVec Ideal S512x64 .f32) (p : Fin 512)

theorem top_at : top t (ix2 p 0) = max (Finset.fold max ⊥ (fun x : Fin 64 => max (t (ix2 p x)) (-(t (ix2 p x)))) Finset.univ) (least : EReal) := by
  rw [← lowest_eq, ← least_eq]
  pointwise! [top]
theorem rounded_at (e : Fin 64) : rounded t (ix2 p e) =
    Ideal.liftRound Ideal.roundHalfEven (t (ix2 p e) * Ideal.div ((127 : ℝ) : EReal) (top t (ix2 p 0))) := by
  rw [← levels_eq]
  pointwise! [rounded]

variable {t p} {r : Fin 64 → ℝ}
theorem top_real (ht : ∀ e, t (ix2 p e) = (r e : EReal)) : top t (ix2 p 0) = (rowTop r : EReal) := by
  rw [top_at]
  simp only [ht, coe_abs]
  rw [fold_max (n := 63) fun e => |r e|, ← EReal.coe_strictMono.monotone.map_max]
  rfl
theorem rounded_real (ht : ∀ e, t (ix2 p e) = (r e : EReal)) (e : Fin 64) : rounded t (ix2 p e) = (((code r e : ℤ) : ℝ) : EReal) := by
  rw [rounded_at, ht, top_real ht, coe_div _ (rowTop_pos _).ne', ← EReal.coe_mul, Ideal.liftRound_coe]
  unfold code
  rw [show r e * (127 / rowTop r) = r e / rowTop r * 127 by ring]

/-- A row with an infinite entry has zeros for codes. -/
theorem rounded_infinite (ht : ¬ ∀ e, t (ix2 p e) = ((t (ix2 p e)).toReal : EReal)) (e : Fin 64) : rounded t (ix2 p e) = (((0 : ℤ) : ℝ) : EReal) := by
  obtain ⟨i, hi⟩ := infinite_of_not (f := fun e : Fin 64 => t (ix2 p e)) ht
  have h : top t (ix2 p 0) = ⊤ := by rw [top_at, fold_top (i := i) hi, max_eq_left le_top]
  rw [rounded_at, h, show Ideal.div ((127 : ℝ) : EReal) ⊤ = 0 by simp [Ideal.div], mul_zero, ← EReal.coe_zero, Ideal.liftRound_coe]
  have : Ideal.roundHalfEven 0 = 0 := le_antisymm (round_le (n := 0) (by simp)) (le_round (n := 0) (by simp))
  rw [this]

theorem word_real {z : ℤ} (h1 : -127 ≤ z) (h2 : z ≤ 127) :
    FloatOps.sitofp (F := Ideal) .bf16 (FloatOps.fptosi (F := Ideal) (φ := .f32) 8 (((z : ℤ) : ℝ) : EReal)) = (((z : ℤ) : ℝ) : EReal) := by
  show (((Ideal.fptosi 8 (((z : ℤ) : ℝ) : EReal)).toInt : ℝ) : EReal) = _
  rw [show (Ideal.fptosi 8 (((z : ℤ) : ℝ) : EReal)).toInt = z from code_word h1 h2]

/-- A row's codes, read back and taken by the row's step, are the row through the quantiser. -/
theorem read_back (t : FVec Ideal S512x64 .f32) (p : Fin 512) (e : Fin 64) :
    FloatOps.sitofp (F := Ideal) .bf16 (FloatOps.fptosi (F := Ideal) (φ := .f32) 8 (rounded t (ix2 p e))) *
      (top t (ix2 p 0) * ((1 / 127 : ℝ) : EReal)) = Numbers.quantise (fun i => t (ix2 p i)) e := by
  unfold Numbers.quantise
  split
  · rename_i ht
    rw [rounded_real ht, word_real (code_bounds _ _).1 (code_bounds _ _).2, top_real ht, ← EReal.coe_mul, ← EReal.coe_mul]
    unfold through
    rw [mul_one_div]
  · rename_i ht
    rw [rounded_infinite ht, word_real (by decide) (by decide), Int.cast_zero, EReal.coe_zero, zero_mul]
end

section
variable (k v : Vec Ideal S1x512x64 .bf16) (p : Fin 512)

theorem wide_at (e : Fin 64) : wide k (ix2 p e) = k (ix3 0 p e) := by
  pointwise! [wide]
theorem codes_at (e : Fin 128) : codes k v (ix3 0 p e) = FloatOps.fptosi (F := Ideal) (φ := .f32) 8
    (if h : e.val < 64 then rounded (wide k) (ix2 p ⟨e.val, h⟩) else rounded (wide v) (ix2 p ⟨e.val - 64, by omega⟩)) := by
  pointwise! [codes]
theorem steps_at (e : Fin 2) : steps k v (ix3 0 p e) =
    (if h : e.val < 1 then top (wide k) (ix2 p ⟨e.val, h⟩) else top (wide v) (ix2 p ⟨e.val - 1, by omega⟩)) *
      Named.named (F := Ideal) (φ := .f32) κ "step" 0x3C010204#32 := by
  pointwise! [steps]

/-- The keys that the codes and the steps stand for are the keys through the quantiser. -/
theorem keys_at (e : Fin 64) : keysOf (steps k v) (codes k v) (ix2 p e) = Numbers.quantise (fun i => k (ix3 0 p i)) e := by
  have h : keysOf (steps k v) (codes k v) (ix2 p e) =
      FloatOps.sitofp (F := Ideal) .bf16 (codes k v (ix3 0 p ⟨e.val, by omega⟩)) * steps k v (ix3 0 p 0) := by pointwise! [keysOf]
  rw [h, codes_at, steps_at, dif_pos e.isLt, dif_pos (by decide), step_eq]
  rw [← funext (wide_at k p), ← read_back]
  rfl
/-- And so the values. -/
theorem values_at (e : Fin 64) : valuesOf (steps k v) (codes k v) (ix2 p e) = Numbers.quantise (fun i => v (ix3 0 p i)) e := by
  have h : valuesOf (steps k v) (codes k v) (ix2 p e) =
      FloatOps.sitofp (F := Ideal) .bf16 (codes k v (ix3 0 p ⟨64 + e.val, by omega⟩)) * steps k v (ix3 0 p 1) := by pointwise! [valuesOf]
  rw [h, codes_at, steps_at, dif_neg (by show ¬ 64 + e.val < 64; omega), dif_neg (by decide), step_eq]
  rw [show (⟨(⟨64 + e.val, by omega⟩ : Fin 128).val - 64, by show 64 + e.val - 64 < 64; omega⟩ : Fin 64) = e from Fin.ext (by show 64 + e.val - 64 = e.val; omega)]
  rw [← funext (wide_at v p), ← read_back]
  rfl
end

/-! ## The weights -/

section
variable {q : Vec Ideal S1x512x64 .f32} {Q : Fin 512 → Fin 64 → ℝ} (hq : ∀ p e, q (ix3 0 p e) = (Q p e : EReal))
  {k : FVec Ideal S512x64 .bf16} {K : Fin 512 → Fin 64 → ℝ} (hk : ∀ p e, k (ix2 p e) = (K p e : EReal))
include hq hk

theorem weights_real (p r : Fin 512) : weights q k (ix2 p r) = (Real.exp (score (Q p) (K r)) : EReal) := by
  have h : weights q k (ix2 p r) = FloatOps.exp2 (F := Ideal) (φ := .f32)
      (∑ x : Fin 64, q (ix3 0 p x) * Named.named (F := Ideal) (φ := .f32) κ "scale_log2e" 0x3E38AA3B#32 * k (ix2 r x)) := by pointwise! [weights]
  rw [h, scale_eq]
  simp only [hq, hk, ← EReal.coe_mul]
  rw [← coe_sum]
  exact (Ideal.exp2_coe _).trans (congrArg _ (exp2_score (Q p) (K r)))

/-- The weighted values, and the sum of the weights after them. -/
theorem weighted_real (v : FVec Ideal S512x64 .bf16) (p : Fin 512) (e : Fin 64) : weighted (weights q k) v (ix2 p ⟨e.val, by omega⟩) = gather (Q p) K (fun r i => v (ix2 r i)) e := by
  have h : weighted (weights q k) v (ix2 p ⟨e.val, by omega⟩) = ∑ x : Fin 512, weights q k (ix2 p x) * v (ix2 x e) := by
    pointwise [weighted]
  rw [h]
  simp only [weights_real hq hk]
  rfl
theorem weighted_last (v : FVec Ideal S512x64 .bf16) (p : Fin 512) : weighted (weights q k) v (ix2 p 64) = (weigh (Q p) K : EReal) := by
  have h : weighted (weights q k) v (ix2 p 64) = ∑ x : Fin 512, weights q k (ix2 p x) * 1 := by
    pointwise [weighted]
  rw [h]
  simp only [weights_real hq hk, mul_one]
  rw [← coe_sum]
  rfl
end

/-! ## A head's result -/

section
variable {q : Vec Ideal S1x512x64 .f32} {k k' : Vec Ideal S1x512x64 .bf16} {Q K K' : Fin 512 → Fin 64 → ℝ}
  (hq : ∀ p e, q (ix3 0 p e) = (Q p e : EReal)) (hk : ∀ p e, k (ix3 0 p e) = (K p e : EReal)) (hk' : ∀ p e, k' (ix3 0 p e) = (K' p e : EReal))
  (v v' : Vec Ideal S1x512x64 .bf16)

theorem flat_at (k : Vec Ideal S1x512x64 .bf16) (p : Fin 512) (e : Fin 64) :
    (shapeCast S512x64 k shapeCasts_S1x512x64_S512x64 : FVec Ideal S512x64 .bf16) (ix2 p e) = k (ix3 0 p e) := by pointwise!
theorem own_at (k : Vec Ideal S1x512x64 .bf16) (q : Vec Ideal S1x512x64 .f32) (v : Vec Ideal S1x512x64 .bf16) (p : Fin 512) (e : Fin 65) :
    ownPart k q v (ix3 0 p e) = weighted (weights q (shapeCast S512x64 k shapeCasts_S1x512x64_S512x64))
      (shapeCast S512x64 v shapeCasts_S1x512x64_S512x64) (ix2 p e) := by pointwise! [ownPart]
theorem joined_at (p : FVec Ideal S512x65 .f32) (a : Vec Ideal S1x512x65 .f32) (r : Fin 512) (e : Fin 64) :
    joined p a (ix2 r e) = (a (ix3 0 r ⟨e.val, by omega⟩) + p (ix2 r ⟨e.val, by omega⟩)) * Ideal.div 1 (a (ix3 0 r 64) + p (ix2 r 64)) := by
  pointwise! [joined]

include hq hk hk'

theorem joined_real (p : Fin 512) (e : Fin 64) : joined (peerPart (steps k' v') (codes k' v') (codes k' v') q) (ownPart k q v) (ix2 p e) =
    Numbers.attend (Q p) K (fun r i => v (ix3 0 r i)) K' (fun r i => v' (ix3 0 r i)) e := by
  have hK : ∀ p e, (shapeCast S512x64 k shapeCasts_S1x512x64_S512x64 : FVec Ideal S512x64 .bf16) (ix2 p e) = (K p e : EReal) :=
    fun p e => (flat_at k p e).trans (hk p e)
  have hK' : ∀ p e, keysOf (steps k' v') (codes k' v') (ix2 p e) = (through (K' p) e : EReal) := fun p e => by
    rw [keys_at, funext (hk' p), quantise_coe]
  rw [joined_at, own_at, own_at]
  unfold peerPart
  rw [weighted_real hq hK, weighted_last hq hK _, weighted_real hq hK', weighted_last hq hK' _, ← EReal.coe_add, ← EReal.coe_one,
    coe_div _ (add_pos (weigh_pos _ _) (weigh_pos _ _)).ne']
  simp only [flat_at, values_at]
  rfl

theorem result_real (p : Fin 512) (e : Fin 64) : result (peerPart (steps k' v') (codes k' v') (codes k' v') q) (ownPart k q v) (ix3 0 p e) =
    Numbers.attend (Q p) K (fun r i => v (ix3 0 r i)) K' (fun r i => v' (ix3 0 r i)) e := by
  rw [← joined_real hq hk hk' v v']
  pointwise! [result]
theorem got_real (p : Fin 512) (e : Fin 64) :
    resultGot (resultSent (peerPart (steps k' v') (codes k' v') (codes k' v') q) (ownPart k q v)) (ix3 0 p e) =
    Numbers.attend (Q p) K (fun r i => v (ix3 0 r i)) K' (fun r i => v' (ix3 0 r i)) e := by
  rw [← joined_real hq hk hk' v v']
  pointwise! [resultGot, resultSent]
end

end Cert.KernelIdeal.Attn

end
-- ==== Proof.Stages.lean ====
module

public import proofs.«01_k».proof.Proof.Gen.ReferenceIdeal.Run
public import proofs.«01_k».proof.Proof.Numbers
public import Idealize.ShloMosaic.Lib.Pointwise
public import Idealize.ShloMosaic.Lib.IdealHost

@[expose] public section

/-! # The reference, stage by stage

The reference's result is one long term of its arguments. It is cut here into its stages: which half a position lies in,
the quantiser, the scaled products, their softmax and the weighted values; each is read at an index. -/

set_option maxRecDepth 16384

noncomputable section

namespace Cert.ReferenceIdeal.Stages

open Idealize.ShloMosaic Idealize.ShloMosaic.TcCoe Cert.ReferenceIdeal Cert.ReferenceIdeal.Gen Cert.Numbers

/-! ## The stages -/

/-- The divisor 512 at every position. -/
def size : IVec S1024 32 := broadcastInDim S1024 ![] bcast_S_S1024 (id (constantI S_ 32 512#32))
/-- The half that a position lies in. -/
def half : IVec S1024 32 :=
  select (andi (cmpi .ne (signi (iotaInDim S1024 32 0)) (broadcastInDim S1024 ![] bcast_S_S1024 (signi (id (constantI S_ 32 512#32)))))
      (cmpi .ne (Host.remsi (iotaInDim S1024 32 0) size) (broadcastInDim S1024 ![] bcast_S_S1024 (constantI S_ 32 0#32))))
    (subi (Host.divsi (iotaInDim S1024 32 0) size) (broadcastInDim S1024 ![] bcast_S_S1024 (constantI S_ 32 1#32)))
    (Host.divsi (iotaInDim S1024 32 0) size)
/-- Whether two positions lie in the same half. -/
def near : IVec S1024x1024 1 :=
  cmpi .eq (broadcastInDim S1024x1024 ![0, 1] bcast_S1024x1_S1024x1024_0_1 (broadcastInDim S1024x1 ![0] bcast_S1024_S1024x1_0 half))
    (broadcastInDim S1024x1024 ![0, 1] bcast_S1x1024_S1024x1024_0_1 (broadcastInDim S1x1024 ![1] bcast_S1024_S1x1024_1 half))
/-- The same for every batch and head. -/
def nears : IVec S2x8x1024x1024 1 := broadcastInDim S2x8x1024x1024 ![2, 3] bcast_S1024x1024_S2x8x1024x1024_2_3 near

variable (t : FVec Ideal S2x1024x8x64 .f32)

/-- The largest magnitude of each row, and no less than `1e-6`. -/
def rowTops : FVec Ideal S2x1024x8x1 .f32 :=
  maximumf (broadcastInDim S2x1024x8x1 ![0, 1, 2] bcast_S2x1024x8_S2x1024x8x1_0_1_2
      (Host.reduce FloatOps.maximumf (Host.absf t) (constant S_ .f32 0xFF800000#32) reducesTo_S2x1024x8x64_S2x1024x8_d3 h_S_))
    (broadcastInDim S2x1024x8x1 ![] bcast_S_S2x1024x8x1 (constant S_ .f32 0x358637BD#32))
/-- Each row through the quantiser. -/
def quantised : FVec Ideal S2x1024x8x64 .f32 :=
  mulf (Host.roundeven (mulf (Host.divf t (broadcastInDim S2x1024x8x64 ![0, 1, 2, 3] bcast_S2x1024x8x1_S2x1024x8x64_0_1_2_3 (rowTops t)))
      (broadcastInDim S2x1024x8x64 ![] bcast_S_S2x1024x8x64 (constant S_ .f32 0x42FE0000#32))))
    (broadcastInDim S2x1024x8x64 ![0, 1, 2, 3] bcast_S2x1024x8x1_S2x1024x8x64_0_1_2_3
      (Host.divf (rowTops t) (broadcastInDim S2x1024x8x1 ![] bcast_S_S2x1024x8x1 (constant S_ .f32 0x42FE0000#32))))

/-- The products of queries and keys. -/
def products (q k : FVec Ideal S2x1024x8x64 .f32) : FVec Ideal S2x8x1024x1024 .f32 :=
  Host.dotGeneral dot_S2x1024x8x64_S2x1024x8x64_S2x8x1024x1024_3_3_1_1_02_02 none q k
/-- The scaled products, with the other half's keys through the quantiser. -/
def scores (q k : FVec Ideal S2x1024x8x64 .f32) : FVec Ideal S2x8x1024x1024 .f32 :=
  mulf (select nears (products q k) (products q (quantised k))) (broadcastInDim S2x8x1024x1024 ![] bcast_S_S2x8x1024x1024 (constant S_ .f32 0x3E000000#32))

variable (s : FVec Ideal S2x8x1024x1024 .f32)

/-- The exponentials, each row less its maximum. -/
def expo : FVec Ideal S2x8x1024x1024 .f32 :=
  Host.exp (subf s (broadcastInDim S2x8x1024x1024 ![0, 1, 2, 3] bcast_S2x8x1024x1_S2x8x1024x1024_0_1_2_3
    (broadcastInDim S2x8x1024x1 ![0, 1, 2] bcast_S2x8x1024_S2x8x1024x1_0_1_2
      (Host.reduce FloatOps.maximumf s (constant S_ .f32 0xFF800000#32) reducesTo_S2x8x1024x1024_S2x8x1024_d3 h_S_))))
/-- The softmax. -/
def soft : FVec Ideal S2x8x1024x1024 .f32 :=
  Host.divf (expo s) (broadcastInDim S2x8x1024x1024 ![0, 1, 2, 3] bcast_S2x8x1024x1_S2x8x1024x1024_0_1_2_3
    (broadcastInDim S2x8x1024x1 ![0, 1, 2] bcast_S2x8x1024_S2x8x1024x1_0_1_2
      (Host.reduceAdd (expo s) (constant S_ .f32 0x00000000#32) reducesTo_S2x8x1024x1024_S2x8x1024_d3 h_S_)))
/-- Zeros. -/
def zeros : FVec Ideal S2x8x1024x1024 .f32 := broadcastInDim S2x8x1024x1024 ![] bcast_S_S2x8x1024x1024 (id (constant S_ .f32 0x00000000#32))
/-- Values weighted by `p`. -/
def mixed (v : FVec Ideal S2x1024x8x64 .f32) (p : FVec Ideal S2x8x1024x1024 .f32) : FVec Ideal S2x1024x8x64 .f32 :=
  transpose S2x1024x8x64 [0, 3, 1, 2] (Host.dotGeneral dot_S2x1024x8x64_S2x8x1024x1024_S2x8x64x1024_1_3_3_2_02_01 none v p)
    transposes_S2x8x64x1024_S2x1024x8x64_0_3_1_2
/-- The reference's result. -/
def out (q k v : FVec Ideal S2x1024x8x64 .f32) : FVec Ideal S2x1024x8x64 .f32 :=
  addf (mixed v (select nears (soft (scores q k)) zeros)) (mixed (quantised v) (select nears zeros (soft (scores q k))))

theorem out_eq (m : (ℓ : Loc nD τ sig) → Buf (Elt Ideal) ℓ) (c : Dev nD) : Value.res_main_v55 m c =
    out (m ((c.tc : Thread nD τ).loc main_arg0)) (m ((c.tc : Thread nD τ).loc main_arg1)) (m ((c.tc : Thread nD τ).loc main_arg2)) := rfl

/-! ## Read at an index -/

theorem half_at (p : Fin 1024) : half (ix1 p) = BitVec.ofNat 32 (p.val / 512) := by
  pointwise [half, size]
  revert p
  decide +kernel
theorem word_eq : ∀ a b : Fin 2, IntOp.cmpi CmpIPredicate.eq (BitVec.ofNat 32 a.val) (BitVec.ofNat 32 b.val) = if a.val = b.val then 1#1 else 0#1 := by
  decide
theorem nears_at (b : Fin 2) (h : Fin 8) (p r : Fin 1024) : nears (ix4 b h p r) = if p.val / 512 = r.val / 512 then 1#1 else 0#1 := by
  have h1 : nears (ix4 b h p r) = near (ix2 p r) := by pointwise! [nears]
  have h2 : near (ix2 p r) = IntOp.cmpi CmpIPredicate.eq (half (ix1 p)) (half (ix1 r)) := by pointwise! [near]
  rw [h1, h2, half_at, half_at]
  exact word_eq ⟨p.val / 512, by omega⟩ ⟨r.val / 512, by omega⟩
theorem select_near {α : Type} (b : Fin 2) (h : Fin 8) (p r : Fin 1024) (x y : α) :
    Scalar.select (nears (ix4 b h p r)) x y = if p.val / 512 = r.val / 512 then x else y := by
  rw [nears_at]
  split <;> rfl

section
variable (t : FVec Ideal S2x1024x8x64 .f32) (b : Fin 2) (h : Fin 8) (p : Fin 1024)

theorem rowTops_at : rowTops t (ix4 b p h 0) =
    max (Finset.fold max ⊥ (fun x : Fin 64 => max (t (ix4 b p h x)) (-(t (ix4 b p h x)))) Finset.univ) (least : EReal) := by
  rw [← lowest_eq, ← least_eq]
  pointwise! [rowTops]

/-- The quantiser of the reference is the quantiser. -/
theorem quantised_at (e : Fin 64) : quantised t (ix4 b p h e) = quantise (fun i => t (ix4 b p h i)) e := by
  have hr : quantised t (ix4 b p h e) = Ideal.liftRound Ideal.roundHalfEven
      (Ideal.div (t (ix4 b p h e)) (rowTops t (ix4 b p h 0)) * ((127 : ℝ) : EReal)) *
      Ideal.div (rowTops t (ix4 b p h 0)) ((127 : ℝ) : EReal) := by
    rw [← levels_eq]
    pointwise! [quantised]
  rw [hr]
  unfold quantise
  split
  · rename_i ht
    have htop : rowTops t (ix4 b p h 0) = (rowTop (fun i : Fin 64 => (t (ix4 b p h i)).toReal) : EReal) := by
      rw [rowTops_at, funext fun x => congrArg₂ max (ht x) (congrArg Neg.neg (ht x))]
      simp only [coe_abs]
      rw [fold_max (n := 63) fun e : Fin 64 => |(t (ix4 b p h e)).toReal|, ← EReal.coe_strictMono.monotone.map_max]
      rfl
    rw [htop]
    refine Eq.trans (congrArg (fun x => Ideal.liftRound Ideal.roundHalfEven (Ideal.div x _ * _) * _) (ht e)) ?_
    rw [coe_div _ (rowTop_pos _).ne', coe_div _ (by norm_num), ← EReal.coe_mul, Ideal.liftRound_coe, ← EReal.coe_mul]
    rfl
  · rename_i ht
    obtain ⟨i, hi⟩ := infinite_of_not (f := fun e : Fin 64 => t (ix4 b p h e)) ht
    have htop : rowTops t (ix4 b p h 0) = ⊤ := by rw [rowTops_at, fold_top (i := i) hi, max_eq_left le_top]
    rw [htop, show Ideal.div (t (ix4 b p h e)) ⊤ = 0 by simp [Ideal.div], zero_mul, ← EReal.coe_zero, Ideal.liftRound_coe]
    have : Ideal.roundHalfEven 0 = 0 := le_antisymm (round_le (n := 0) (by simp)) (le_round (n := 0) (by simp))
    rw [this, Int.cast_zero, EReal.coe_zero, zero_mul]
end

section
variable {q k : FVec Ideal S2x1024x8x64 .f32} {Q K : Fin 2 → Fin 8 → Fin 1024 → Fin 64 → ℝ}
  (hq : ∀ b h p e, q (ix4 b p h e) = (Q b h p e : EReal)) (hk : ∀ b h p e, k (ix4 b p h e) = (K b h p e : EReal))
include hq hk

theorem products_real (b : Fin 2) (h : Fin 8) (p r : Fin 1024) :
    products q k (ix4 b h p r) = ((∑ x, Q b h p x * K b h r x : ℝ) : EReal) := by
  have hr : products q k (ix4 b h p r) = ∑ x : Fin 64, q (ix4 b p h x) * k (ix4 b r h x) := by pointwise! [products]
  rw [hr]
  simp only [hq, hk, ← EReal.coe_mul]
  rw [← coe_sum]

/-- The key at `r` as a query at `p` meets it. -/
def met (K : Fin 1024 → Fin 64 → ℝ) (p r : Fin 1024) : Fin 64 → ℝ := if p.val / 512 = r.val / 512 then K r else through (K r)

theorem scores_real (b : Fin 2) (h : Fin 8) (p r : Fin 1024) :
    scores q k (ix4 b h p r) = (score (Q b h p) (met (K b h) p r) : EReal) := by
  have hr : scores q k (ix4 b h p r) = Scalar.select (nears (ix4 b h p r)) (products q k (ix4 b h p r)) (products q (quantised k) (ix4 b h p r)) *
      Ideal.ofBits .f32 0x3E000000#32 := by pointwise! [scores]
  have hk' : ∀ b h p e, quantised k (ix4 b p h e) = (through (K b h p) e : EReal) := fun b h p e => by
    rw [quantised_at, funext (hk b h p), quantise_coe]
  rw [hr, select_near, products_real hq hk, products_real hq hk', eighth_eq]
  unfold score met
  split <;> rw [← EReal.coe_mul, mul_comm]
end

section
variable {s : FVec Ideal S2x8x1024x1024 .f32} {S : Fin 2 → Fin 8 → Fin 1024 → Fin 1024 → ℝ} (hs : ∀ b h p r, s (ix4 b h p r) = (S b h p r : EReal))
include hs

theorem expo_real (b : Fin 2) (h : Fin 8) (p r : Fin 1024) :
    expo s (ix4 b h p r) = (Real.exp (S b h p r - greatest (n := 1023) (S b h p)) : EReal) := by
  have hr : expo s (ix4 b h p r) = Ideal.exp (s (ix4 b h p r) - Finset.fold max (Ideal.ofBits .f32 0xFF800000#32)
      (fun x : Fin 1024 => s (ix4 b h p x)) Finset.univ) := by pointwise! [expo]
  rw [hr, lowest_eq]
  simp only [hs]
  rw [fold_max (n := 1023) (S b h p), ← EReal.coe_sub, Ideal.exp_coe]

/-- The maximum cancels in the softmax. -/
theorem soft_real (b : Fin 2) (h : Fin 8) (p r : Fin 1024) :
    soft s (ix4 b h p r) = ((Real.exp (S b h p r) / ∑ x, Real.exp (S b h p x) : ℝ) : EReal) := by
  have hr : soft s (ix4 b h p r) = Ideal.div (expo s (ix4 b h p r)) (∑ x : Fin 1024, expo s (ix4 b h p x)) := by pointwise! [soft]
  rw [hr]
  simp only [expo_real hs]
  rw [← coe_sum]
  have hpos : 0 < ∑ x, Real.exp (S b h p x - greatest (n := 1023) (S b h p)) :=
    Finset.sum_pos (fun x _ => Real.exp_pos _) ⟨0, Finset.mem_univ _⟩
  rw [coe_div _ hpos.ne']
  simp only [Real.exp_sub]
  rw [← Finset.sum_div, div_div_div_cancel_right₀ (Real.exp_ne_zero _)]
end

/-! ## The halves -/

/-- Position `r` of half `y`. -/
def pos (y : Fin 2) (r : Fin 512) : Fin 1024 := ⟨512 * y.val + r.val, by omega⟩
theorem pos_half (y : Fin 2) (r : Fin 512) : (pos y r).val / 512 = y.val := by
  show (512 * y.val + r.val) / 512 = y.val
  omega
/-- The other half. -/
def opp (y : Fin 2) : Fin 2 := 1 - y
theorem opp_ne : ∀ y : Fin 2, ¬ y.val = (opp y).val := by decide

/-- A sum over the positions is a sum over the one half and a sum over the other. -/
theorem sum_halves {M : Type} [AddCommMonoid M] (y : Fin 2) (f : Fin 1024 → M) : ∑ x, f x = ∑ r, f (pos y r) + ∑ r, f (pos (opp y) r) := by
  have h : ∑ x, f x = ∑ r, f (pos 0 r) + ∑ r, f (pos 1 r) := by
    rw [Fin.sum_univ_two_halves 512 512 rfl f]
    congr 1
  fin_cases y
  · exact h
  · exact h.trans (add_comm _ _)

section
variable {q k : FVec Ideal S2x1024x8x64 .f32} {Q K : Fin 2 → Fin 8 → Fin 1024 → Fin 64 → ℝ}
  (hq : ∀ b h p e, q (ix4 b p h e) = (Q b h p e : EReal)) (hk : ∀ b h p e, k (ix4 b p h e) = (K b h p e : EReal))
  (v : FVec Ideal S2x1024x8x64 .f32)

theorem mixed_at (v : FVec Ideal S2x1024x8x64 .f32) (p' : FVec Ideal S2x8x1024x1024 .f32) (b : Fin 2) (h : Fin 8) (p : Fin 1024) (e : Fin 64) :
    mixed v p' (ix4 b p h e) = ∑ x : Fin 1024, v (ix4 b x h e) * p' (ix4 b h p x) := by pointwise! [mixed]
theorem zeros_at (b : Fin 2) (h : Fin 8) (p r : Fin 1024) : zeros (ix4 b h p r) = 0 := by
  have hr : zeros (ix4 b h p r) = id (constant (F := Ideal) S_ .f32 0x00000000#32) ix0 := by pointwise! [zeros]
  rw [hr]
  exact Ideal.ofBits_zero_f32
include hq hk

/-- The reference's result for a query of half `y` is the attention over that half as it is and over the other through the quantiser. -/
theorem out_real (b : Fin 2) (h : Fin 8) (y : Fin 2) (p : Fin 512) (e : Fin 64) : out q k v (ix4 b (pos y p) h e) =
    attend (Q b h (pos y p)) (fun r => K b h (pos y r)) (fun r i => v (ix4 b (pos y r) h i))
      (fun r => K b h (pos (opp y) r)) (fun r i => v (ix4 b (pos (opp y) r) h i)) e := by
  have hr : out q k v (ix4 b (pos y p) h e) = mixed v (select nears (soft (scores q k)) zeros) (ix4 b (pos y p) h e) +
      mixed (quantised v) (select nears zeros (soft (scores q k))) (ix4 b (pos y p) h e) := by pointwise! [out]
  have hsel : ∀ (f g : FVec Ideal S2x8x1024x1024 .f32) x, (select nears f g : FVec Ideal S2x8x1024x1024 .f32) (ix4 b h (pos y p) x) =
      if y.val = x.val / 512 then f (ix4 b h (pos y p) x) else g (ix4 b h (pos y p) x) := fun f g x => by
    rw [← pos_half y p]
    exact select_near b h (pos y p) x _ _
  have hS := soft_real (scores_real hq hk)
  rw [hr, mixed_at, mixed_at]
  simp only [hsel]
  rw [sum_halves y, sum_halves y]
  simp only [pos_half, opp_ne, if_true, if_false, zeros_at, mul_zero, Finset.sum_const_zero, add_zero, zero_add, quantised_at, hS]
  have hn : ∀ r, met (K b h) (pos y p) (pos y r) = K b h (pos y r) := fun r => by rw [met, pos_half, pos_half, if_pos rfl]
  have hf : ∀ r, met (K b h) (pos y p) (pos (opp y) r) = through (K b h (pos (opp y) r)) := fun r => by
    rw [met, pos_half, pos_half, if_neg (opp_ne y)]
  have hD := sum_halves y fun x => Real.exp (score (Q b h (pos y p)) (met (K b h) (pos y p) x))
  simp only [hn, hf] at hD ⊢
  rw [hD]
  have hpos : 0 ≤ 1 / (weigh (Q b h (pos y p)) (fun r => K b h (pos y r)) + weigh (Q b h (pos y p)) fun r => through (K b h (pos (opp y) r))) :=
    (one_div_pos.mpr (add_pos (weigh_pos _ _) (weigh_pos _ _))).le
  unfold attend gather
  rw [EReal.right_distrib_of_nonneg_of_ne_top (EReal.coe_nonneg.mpr hpos) (EReal.coe_ne_top _), sum_mul _ _ hpos, sum_mul _ _ hpos]
  refine congrArg₂ _ ?_ ?_ <;>
    exact Finset.sum_congr rfl fun r _ => by rw [div_eq_mul_one_div, EReal.coe_mul, mul_left_comm, mul_assoc]; rfl
end

end Cert.ReferenceIdeal.Stages

end
-- ==== Proof.Protocol.lean ====
module

public import proofs.«01_k».proof.Proof.Body
public import Idealize.ShloMosaic.Lib.Rounds
public import Idealize.ShloMosaic.Lib.Tactic
public import Idealize.ShloMosaic.Lib.Memref
public import Idealize.ShloMosaic.Lib.Pipeline.RegionTalk

@[expose] public section

/-! # The protocol of the exchange

Every semaphore carries one round. Its barrier semaphore hands a device the two neighbours' landing areas; a receive
semaphore hands it what has landed, at contents that are named here as functions of all devices' inputs; a send
semaphore hands the source back. -/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## What is computed from all devices' inputs -/

/-- The queries, keys and values of every device, as its kernel holds them. -/
structure Inputs (F : FTy → Type) where
  q : Dev nD → (S16x512x64.Idx → Elt F .f32)
  k : Dev nD → (S16x512x64.Idx → Elt F .bf16)
  v : Dev nD → (S16x512x64.Idx → Elt F .bf16)

variable (x : Inputs F)

/-- Head `j` of those that device `d` computes. -/
def qHead (d : Dev nD) (j : Fin 8) : Vec F S1x512x64 .f32 := fun i => x.q d ((rMine d j).emb i)
def kHead (d : Dev nD) (j : Fin 8) : Vec F S1x512x64 .bf16 := fun i => x.k d ((rMine d j).emb i)
def vHead (d : Dev nD) (j : Fin 8) : Vec F S1x512x64 .bf16 := fun i => x.v d ((rMine d j).emb i)

def codesAt (d : Dev nD) (j : Fin 8) : Vec F S1x512x128 .i8 := codes (kHead x d j) (vHead x d j)
def stepsAt (d : Dev nD) (j : Fin 8) : Vec F S1x512x2 .bf16 := steps (kHead x d j) (vHead x d j)
def ownAt (d : Dev nD) (j : Fin 8) : Vec F S1x512x65 .f32 := ownPart (kHead x d j) (qHead x d j) (vHead x d j)
def peerAt (d : Dev nD) (j : Fin 8) : FVec F S512x65 .f32 :=
  peerPart (stepsAt x (across d) j) (codesAt x (across d) j) (codesAt x (across d) j) (qHead x d j)
/-- Head `j`'s result on the device that computes it, as it is sent, and as it is received. -/
def mineAt (d : Dev nD) (j : Fin 8) : Vec F S1x512x64 .f32 := result (peerAt x d j) (ownAt x d j)
def sentAt (d : Dev nD) (j : Fin 8) : Vec F S1x512x64 .bf16 := resultSent (peerAt x d j) (ownAt x d j)
def theirsAt (d : Dev nD) (j : Fin 8) : Vec F S1x512x64 .f32 := resultGot (sentAt x (beside d) j)

/-! ## The cells -/

theorem across_across (d : Dev nD) : across (across d) = d := by revert d; decide
theorem beside_beside (d : Dev nD) : beside (beside d) = d := by revert d; decide
theorem across_ne (d : Dev nD) : across d ≠ d := by revert d; decide
theorem beside_ne (d : Dev nD) : beside d ≠ d := by revert d; decide
theorem across_ne_beside (d : Dev nD) : across d ≠ beside d := by revert d; decide

/-- The kernel's own semaphores: codes sent and received, results sent and received, one for each head; the steps
    sent and received. -/
abbrev Site : Type := (Fin 4 × Fin 8) ⊕ Fin 2
abbrev codesOut (j : Fin 8) : Site := .inl (0, j)
abbrev codesIn (j : Fin 8) : Site := .inl (1, j)
abbrev resOut (j : Fin 8) : Site := .inl (2, j)
abbrev resIn (j : Fin 8) : Site := .inl (3, j)
abbrev stepsOut : Site := .inr 0
abbrev stepsIn : Site := .inr 1

/-- The semaphore of each. -/
def siteSem : Site → SemLoc sig
  | .inl (0, j) => .dma (semOf cc0_scratch7 j)
  | .inl (1, j) => .dma (semOf cc0_scratch8 j)
  | .inl (2, j) => .dma (semOf cc0_scratch11 j)
  | .inl (3, j) => .dma (semOf cc0_scratch12 j)
  | .inr 0 => .dma cc0_scratch9.sem
  | .inr 1 => .dma cc0_scratch10.sem

theorem siteSem_inj : Function.Injective siteSem := by decide
theorem siteSem_ne_bar : ∀ k, siteSem k ≠ .reg barS := by decide
theorem siteSem_own : Pipeline.OwnSemFacts spec0 siteSem := by decide

abbrev barCell (c : Dev nD) : GSem nD τ sig := ((c : Thread nD τ), .reg barS)
abbrev cell (c : Dev nD) (k : Site) : GSem nD τ sig := ((c : Thread nD τ), siteSem k)

/-- Which of them a semaphore is. -/
def siteOf (s : SemLoc sig) : Option Site := Function.partialInv siteSem s
theorem siteOf_siteSem (k : Site) : siteOf (siteSem k) = some k := Function.partialInv_left siteSem_inj k

/-! ## The amounts -/

/-- The credit of one transfer of codes, of steps, of results. -/
abbrev NK : ℕ := (slotK kvR 0).view.dmaCredit
abbrev NC : ℕ := (scR).view.dmaCredit
abbrev NO : ℕ := (slotO oxR 0).view.dmaCredit

def siteAmt : Site → ℕ
  | .inl (0, _) => NK
  | .inl (1, _) => NK
  | .inl (2, _) => NO
  | .inl (3, _) => NO
  | .inr 0 => NC
  | .inr 1 => NC

theorem siteAmt_pos (k : Site) : 0 < siteAmt k := by
  rcases k with ⟨a, j⟩ | a
  · fin_cases a <;> exact View.dmaCredit_pos _ (by decide)
  · fin_cases a <;> exact View.dmaCredit_pos _ (by decide)

/-! ## The ghost state -/

/-- The library's part for the staging semaphores, and the protocol's. -/
abbrev UU : Type := UR sig nD τ × URounds (GSem nD τ sig) Bool

abbrev 𝕄 (F : FTy → Type) : Type := MT nD τ sig Unit (Elt F) ℕ UU ℕ

abbrev EP : Emb (UR sig nD τ) (𝕄 F) := embL
abbrev ER : Emb (URounds (GSem nD τ sig) Bool) (𝕄 F) := embR

/-- A buffer of device `c`, whole, at given contents. -/
abbrev pt (c : Dev nD) (b : Ref sig .tc) (f : b.ty.Contents (Elt F)) : sProp (𝕄 F) := ((c : Thread nD τ).loc b) ↦{fullShare} f

/-- A memref of device `c`, reading as `w`, or as anything. -/
abbrev has (c : Dev nD) {s : Shape} {e : EltTy} (M : Memref sig .tc .vmem s e) (w : s.Idx → Elt F e) : sProp (𝕄 F) :=
  owns (c : Thread nD τ) M fullShare w
abbrev any (F : FTy → Type) [FloatOps F] [Named F] (c : Dev nD) {s : Shape} {e : EltTy} (M : Memref sig .tc .vmem s e) : sProp (𝕄 F) :=
  iprop(∃ w : s.Idx → Elt F e, has c M w)

/-- An array of steps whose head `j`, for `j` outside a list, is what device `d` computes. -/
def stepsFrom (c : Dev nD) (M : Memref sig .tc .vmem S8x512x2 .bf16) (d : Dev nD) (l : List (Fin 8)) : sProp (𝕄 F) :=
  iprop(∃ w : S8x512x2.Idx → Elt F .bf16, ⌜∀ j, j ∉ l → (fun i => w ((rC j).emb i)) = stepsAt x d j⌝ ∗ has c M w)

/-- What each semaphore hands to its device when it is waited for. -/
def sitePay (c : Dev nD) : Site → sProp (𝕄 F)
  | .inl (0, j) => any F c (slotK kvS j)
  | .inl (1, j) => has c (slotK kvR j) (codesAt x (across c) j)
  | .inl (2, j) => any F c (slotO oxS j)
  | .inl (3, j) => has c (slotO oxR j) (sentAt x (beside c) j)
  | .inr 0 => any F c scS
  | .inr 1 => stepsFrom x c scR (across c) []

/-- What the device across hands over at the barrier: where its codes and steps land. -/
def acrossPay (d : Dev nD) : sProp (𝕄 F) :=
  iprop((bigSep Finset.univ fun j : Fin 8 => any F d (slotK kvR j)) ∗ any F d scR
    ∗ (bigSep Finset.univ fun j : Fin 8 => reached ER (cell d (codesIn j)) 0) ∗ reached ER (cell d stepsIn) 0)
/-- What the device beside hands over: where its results land. -/
def besidePay (d : Dev nD) : sProp (𝕄 F) :=
  iprop((bigSep Finset.univ fun j : Fin 8 => any F d (slotO oxR j))
    ∗ (bigSep Finset.univ fun j : Fin 8 => reached ER (cell d (resIn j)) 0))

/-- One round on each cell; the barrier's is paid by both neighbours. -/
def sched : Rounds.Schedule (GSem nD τ sig) Bool (𝕄 F) where
  duties g r := if r = 0 ∧ g.1.2 = .tc then (if g.2 = .reg barS then {false, true} else if (siteOf g.2).isSome then {false} else ∅) else ∅
  unitless _ := False
  amount g _ _ := if g.2 = .reg barS then 1 else ((siteOf g.2).map siteAmt).getD 1
  payload g _ d :=
    if g.2 = .reg barS then (if d then besidePay (beside g.1.1) else acrossPay (across g.1.1))
    else ((siteOf g.2).map (sitePay x g.1.1)).getD iprop(emp)
  amount_pos g _ _ _ := by
    split
    · exact Nat.one_pos
    · cases siteOf g.2 with
      | none => exact Nat.one_pos
      | some k => exact siteAmt_pos k

instance sitePay_storable (c : Dev nD) (k : Site) : BI.Storable (upEmb : UEmb _ (𝕄 F)) (sitePay x c k) := by
  rcases k with ⟨a, j⟩ | a
  · fin_cases a <;> (unfold sitePay; infer_instance)
  · fin_cases a <;> (unfold sitePay stepsFrom; infer_instance)

instance sched_storable (g : GSem nD τ sig) (r : ℕ) (d : Bool) : BI.Storable (upEmb : UEmb _ (𝕄 F)) ((sched x).payload g r d) := by
  show BI.Storable upEmb (if g.2 = .reg barS then (if d then besidePay (beside g.1.1) else acrossPay (across g.1.1))
    else ((siteOf g.2).map (sitePay x g.1.1)).getD (iprop(emp) : sProp (𝕄 F)))
  split
  · split
    · unfold besidePay; infer_instance
    · unfold acrossPay; infer_instance
  · cases siteOf g.2 with
    | none => show BI.Storable upEmb (iprop(emp) : sProp (𝕄 F)); infer_instance
    | some k => exact sitePay_storable x g.1.1 k

/-! ## The schedule's tables -/

section Tables
variable (c : Dev nD) (k : Site)

theorem duties_bar : (sched x).duties (barCell c) 0 = {false, true} := by
  dsimp only [sched]; rw [if_pos ⟨rfl, rfl⟩, if_pos rfl]
theorem duties_site : (sched x).duties (cell c k) 0 = {false} := by
  dsimp only [sched]; rw [if_pos ⟨rfl, rfl⟩, if_neg (siteSem_ne_bar k), siteOf_siteSem]; rfl
theorem duties_later (g : GSem nD τ sig) : ∀ r, 1 ≤ r → (sched x).duties g r = ∅ := fun r hr => by
  dsimp only [sched]; rw [if_neg (fun h => by omega)]
theorem amount_bar (u : Bool) : (sched x).amount (barCell c) 0 u = 1 := by dsimp only [sched]; exact if_pos rfl
theorem amount_site (u : Bool) : (sched x).amount (cell c k) 0 u = siteAmt k := by
  dsimp only [sched]; rw [if_neg (siteSem_ne_bar k), siteOf_siteSem]; rfl
theorem expect_bar : (sched x).expect (barCell c) 0 = 2 := by
  unfold Schedule.expect Schedule.amountOf
  rw [duties_bar, Finset.sum_pair (by decide), amount_bar, amount_bar]
theorem expect_site : (sched x).expect (cell c k) 0 = siteAmt k := by
  unfold Schedule.expect Schedule.amountOf; rw [duties_site, Finset.sum_singleton, amount_site]
theorem payload_across : (sched x).payload (barCell c) 0 false = acrossPay (across c) := by dsimp only [sched]; rw [if_pos rfl]; rfl
theorem payload_beside : (sched x).payload (barCell c) 0 true = besidePay (beside c) := by dsimp only [sched]; rw [if_pos rfl]; rfl
theorem payload_site (u : Bool) : (sched x).payload (cell c k) 0 u = sitePay x c k := by
  dsimp only [sched]; rw [if_neg (siteSem_ne_bar k), siteOf_siteSem]; rfl
theorem rest_bar : bigSep ((sched x).duties (barCell c) 0 \ ∅) (fun u => (sched x).payload (barCell c) 0 u)
    = iprop(acrossPay (across c) ∗ besidePay (beside c)) := by
  rw [Finset.sdiff_empty, duties_bar, bigSep_insert (by decide), bigSep_singleton, payload_across, payload_beside]; rfl
theorem rest_site : bigSep ((sched x).duties (cell c k) 0 \ ∅) (fun u => (sched x).payload (cell c k) 0 u) = sitePay x c k := by
  rw [Finset.sdiff_empty, duties_site, bigSep_singleton, payload_site]

end Tables

/-! ## What is owed, and the levels of waiting -/

/-- The results still to be sent, and the codes. -/
def owedRes (c : Dev nD) : List (Fin 8) → CellTallies nD τ sig Unit
  | [] => 0
  | j :: l => owedRes c l + tallyAt (cell (beside c) (resIn j)) () NO
def owedCodes (c : Dev nD) : List (Fin 8) → CellTallies nD τ sig Unit
  | [] => owedRes c heads
  | j :: l => owedCodes c l + tallyAt (cell (across c) (codesIn j)) () NK
/-- What is owed once the barrier is signalled, and from the start. -/
def owedSteps (c : Dev nD) : CellTallies nD τ sig Unit := owedCodes c heads + tallyAt (cell (across c) stepsIn) () NC
def owedAll (c : Dev nD) : CellTallies nD τ sig Unit :=
  owedSteps c + tallyAt (barCell (beside c)) () 1 + tallyAt (barCell (across c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier below what arrives from across, and that below what arrives from beside. -/
def siteLv : Site → ℕ
  | .inl (0, _) => 0
  | .inl (1, _) => 2
  | .inl (2, _) => 0
  | .inl (3, _) => 3
  | .inr 0 => 0
  | .inr 1 => 2
def lv (g : GSem nD τ sig) (_ : Unit) : ℕ := if g.2 = .reg barS then 1 else ((siteOf g.2).map siteLv).getD 0
theorem lv_bar (c : Dev nD) : lv (barCell c) () = 1 := if_pos rfl
theorem lv_site (c : Dev nD) (k : Site) : lv (cell c k) () = siteLv k := by
  unfold lv; rw [if_neg (siteSem_ne_bar k), siteOf_siteSem]; rfl

/-- What is owed lies on cells of some level. -/
def Above (n : ℕ) (O : CellTallies nD τ sig Unit) : Prop := ∀ g u, 0 < O g u → u ∈ L g ∧ n < lv g u

theorem above_zero (n : ℕ) : Above n 0 := fun _ _ h => absurd h (Nat.lt_irrefl 0)
theorem above_add {n : ℕ} {O O' : CellTallies nD τ sig Unit} (h : Above n O) (h' : Above n O') : Above n (O + O') := fun g u hp => by
  rw [Pi.add_apply, Finsupp.add_apply] at hp
  rcases Nat.add_pos_iff_pos_or_pos.mp hp with hp | hp
  · exact h g u hp
  · exact h' g u hp
theorem above_tally {n : ℕ} {c : Dev nD} {sm : SemLoc sig} {a : ℕ} (h : n < lv ((c : Thread nD τ), sm) ()) :
    Above n (tallyAt ((c : Thread nD τ), sm) () a) := fun g u hp => by
  rw [tallyAt_apply] at hp
  split at hp
  · next hg => obtain ⟨rfl, rfl⟩ := hg; exact ⟨by rw [L_tc]; exact Finset.mem_singleton_self _, h⟩
  · exact absurd hp (Nat.lt_irrefl 0)
theorem above_mono {n n' : ℕ} {O : CellTallies nD τ sig Unit} (h : Above n O) (hn : n' ≤ n) : Above n' O :=
  fun g u hp => ⟨(h g u hp).1, hn.trans_lt (h g u hp).2⟩

theorem above_res (c : Dev nD) (l : List (Fin 8)) : Above 2 (owedRes c l) := by
  induction l with
  | nil => exact above_zero 2
  | cons j l ih => exact above_add ih (above_tally (by rw [lv_site]; show _ < (_ : ℕ); dsimp only [siteLv]; decide))
theorem above_codes (c : Dev nD) (l : List (Fin 8)) : Above 1 (owedCodes c l) := by
  induction l with
  | nil => exact above_mono (above_res c heads) (by decide)
  | cons j l ih => exact above_add ih (above_tally (by rw [lv_site]; show _ < (_ : ℕ); dsimp only [siteLv]; decide))
theorem above_steps (c : Dev nD) : Above 1 (owedSteps c) := above_add (above_codes c heads) (above_tally (by rw [lv_site]; show _ < (_ : ℕ); dsimp only [siteLv]; decide))
theorem above_all (c : Dev nD) : Above 0 (owedAll c) :=
  above_add (above_add (above_mono (above_steps c) (by decide)) (above_tally (by rw [lv_bar]; decide)))
    (above_tally (by rw [lv_bar]; decide))

/-- A device may wait on a cell below everything that it owes. -/
theorem mayWait_of_above {c : Dev nD} {sm : SemLoc sig} {O : CellTallies nD τ sig Unit} {n : ℕ} (hn : lv ((c : Thread nD τ), sm) () ≤ n)
    (h : Above n O) : (levAts L lv : sProp (𝕄 F)) ⊢ MayWait (c : Thread nD τ) sm () O :=
  MayOwe.of_cut (L := L) (lev := lv) n (fun p hp => by rw [Finset.mem_singleton.mp hp, L_tc]; exact Finset.mem_singleton_self _)
    (fun g u hg => (h g u hg).1) (fun p hp => by rw [Finset.mem_singleton.mp hp]; exact hn) (fun g u hg => (h g u hg).2)

/-! ## The invariants, and what a device carries -/

def barEmb : Dev nD ↪ GSem nD τ sig := ⟨fun c => barCell c, fun _ _ h => congrArg (fun g : GSem nD τ sig => g.1.1) h⟩
def siteEmb : Dev nD × Site ↪ GSem nD τ sig :=
  ⟨fun ck => cell ck.1 ck.2, fun _ _ h => Prod.ext (congrArg (fun g : GSem nD τ sig => g.1.1) h) (siteSem_inj (congrArg Prod.snd h))⟩
abbrev barCells : Finset (GSem nD τ sig) := Finset.univ.map barEmb
abbrev siteCells : Finset (GSem nD τ sig) := Finset.univ.map siteEmb

/-- Every cell's invariant, that every barrier cell has been opened, and the levels. Nothing in it is used up. -/
def facts (K : GSem nD τ sig → ℕ) : sProp (𝕄 F) :=
  iprop((bigSep (barCells ∪ siteCells) fun g => cellInv ER (sched x) (K g) g) ∗ (bigSep barCells fun g => reached ER g 0) ∗ levAts L lv)

instance facts_persistent (K : GSem nD τ sig → ℕ) : BI.Persistent (facts x K) := by unfold facts; infer_instance

theorem inv_mem (K : GSem nD τ sig → ℕ) {g : GSem nD τ sig} (hg : g ∈ (barCells ∪ siteCells : Finset (GSem nD τ sig))) :
    (bigSep (barCells ∪ siteCells) fun g => (cellInv ER (sched x) (K g) g : sProp (𝕄 F))) ⊢ cellInv ER (sched x) (K g) g :=
  bigSep_elim hg
theorem reached_mem (c : Dev nD) : (bigSep barCells fun g => (reached ER g 0 : sProp (𝕄 F))) ⊢ reached ER (barCell c) 0 :=
  bigSep_elim (Finset.mem_map_of_mem barEmb (Finset.mem_univ c))
theorem facts_bar (K : GSem nD τ sig → ℕ) (c : Dev nD) : facts x K ⊢ cellInv ER (sched x) (K (barCell c)) (barCell c) := by
  unfold facts
  iintro ⟨#H, -⟩
  iapply (inv_mem x K (Finset.mem_union_left siteCells (Finset.mem_map_of_mem barEmb (Finset.mem_univ c))))
  iexact H
theorem facts_site (K : GSem nD τ sig → ℕ) (c : Dev nD) (k : Site) : facts x K ⊢ cellInv ER (sched x) (K (cell c k)) (cell c k) := by
  unfold facts
  iintro ⟨#H, -⟩
  iapply (inv_mem x K (Finset.mem_union_right barCells (Finset.mem_map_of_mem siteEmb (Finset.mem_univ (c, k)))))
  iexact H
theorem facts_reached (K : GSem nD τ sig → ℕ) (c : Dev nD) : facts x K ⊢ reached ER (barCell c) 0 := by
  unfold facts
  iintro ⟨-, #H, -⟩
  iapply (reached_mem (F := F) c)
  iexact H
theorem facts_levels (K : GSem nD τ sig → ℕ) : facts x K ⊢ levAts L lv := by
  unfold facts
  iintro ⟨-, -, #H⟩
  iexact H

/-- What a core owes, whatever it has waited for so far. -/
def owing (c : Dev nD) (O : CellTallies nD τ sig Unit) : sProp (𝕄 F) := iprop(∃ W, owes (c : Thread nD τ) O W)
/-- The right to pay a cell's duty. -/
abbrev token (F : FTy → Type) [FloatOps F] [Named F] (c : Dev nD) (k : Site) : sProp (𝕄 F) := dutyTok ER (cell c k) 0 false
abbrev opened (F : FTy → Type) [FloatOps F] [Named F] (c : Dev nD) (k : Site) : sProp (𝕄 F) := reached ER (cell c k) 0
/-- A cell's position before its wait and after it, and the credit that the wait uses. -/
abbrev before (F : FTy → Type) [FloatOps F] [Named F] (c : Dev nD) (k : Site) : sProp (𝕄 F) := atPos ER (cell c k) 0 ∅ 0
abbrev after (F : FTy → Type) [FloatOps F] [Named F] (c : Dev nD) (k : Site) : sProp (𝕄 F) := atPos ER (cell c k) 1 ∅ 0
abbrev credit (F : FTy → Type) [FloatOps F] [Named F] (c : Dev nD) (k : Site) : sProp (𝕄 F) := cred (tallyAt (cell c k) () (siteAmt k))

/-- A cell that has been waited for gives its counter back, at zero. -/
theorem close_site (K : GSem nD τ sig → ℕ) (c : Dev nD) (k : Site) :
    iprop(facts x K ∗ after F c k) ⊢ (|={Set.univ}=> semVal (cell c k) 0 : sProp (𝕄 F)) :=
  (sep_mono_left (facts_site x K c k)).trans
    (Rounds.cell_close ER (sched x) (Set.mem_univ (K (cell c k))) id (duties_later x (cell c k)))
theorem close_bar (K : GSem nD τ sig → ℕ) (c : Dev nD) :
    iprop(facts x K ∗ atPos ER (barCell c) 1 ∅ 0) ⊢ (|={Set.univ}=> semVal (barCell c) 0 : sProp (𝕄 F)) :=
  (sep_mono_left (facts_bar x K c)).trans
    (Rounds.cell_close ER (sched x) (Set.mem_univ (K (barCell c))) id (duties_later x (barCell c)))

end Cert.KernelIdeal.Attn

end
-- ==== Proof.Steps.lean ====
module

public import proofs.«01_k».proof.Proof.Protocol

@[expose] public section

/-! # One operation at a time

What a load, a store, a signal, a wait and a remote copy do to what a device holds, each stated for the memrefs and
the cells of the protocol. -/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (x : Inputs F) (K : GSem nD τ sig → ℕ) (c : Dev nD)

abbrev 𝒱₀ : Variants := Variants.none

/-- The weakest precondition of a program of device `c`'s core. -/
abbrev wpc (c : Dev nD) {α : Type} (p : Prog (TpuEff nD τ sig (Elt F) Λ₀ .tc) α) (Q : α → sProp (𝕄 F)) : sProp (𝕄 F) :=
  wp frame (wpE (defs₀ (F := F)) 𝒱₀ (c : Thread nD τ) none) Set.univ p Q

/-! ## Loads and stores -/

section Memory
variable {s : Shape} {e : EltTy} (M : Memref sig .tc .vmem s e) (r : Rect s)

theorem load_part (hl : M.view.LoadsAt r.toLoadRect) (w : s.Idx → Elt F e) (Kt : (r.shape.Idx → Elt F e) → sProp (𝕄 F)) :
    iprop(has c M w ∗ (has c M w -∗ Kt (fun i => w (r.emb i)))) ⊢ wpc c (Prog.lift (.load (cs := .vmem) M r.toLoadRect hl)) Kt := by
  unfold has owns
  iintro ⟨⟨%f, %hf, H⟩, Hk⟩
  subst hf
  unfold Prog.lift
  iapply (wp_load_rect (m := M) (r := r) 𝒱₀ (c : Thread nD τ) none Set.univ (S := M.view.set) (f := f) (View.set_slice_subset M.view r)) $$ H
  iintro H
  rw [wp_ret]
  imodintro
  rw [show (M.access r).read (Elt F) f = fun i => M.view.read (Elt F) f (r.emb i) from rfl]
  iapply Hk
  iexists f
  isplitr; · ipureintro; rfl
  iexact H

/-- Reading a view after a write through a rectangle of it. -/
theorem read_write_part (f : M.view.ty.Contents (Elt F)) (w : r.shape.Idx → Elt F e) :
    M.view.read (Elt F) ((M.access r).write (Elt F) f w Finset.univ) = r.overlay (M.view.read (Elt F) f) w := by
  funext j
  by_cases hj : j ∈ r.set
  · rw [← Rect.map_emb_univ] at hj
    obtain ⟨i, -, rfl⟩ := Finset.mem_map.mp hj
    rw [Rect.overlay_emb]
    exact congrFun (View.read_write_univ (v := M.access r) f w) i
  · rw [Rect.overlay_of_not_mem _ _ _ hj, View.read_apply, View.read_apply, View.write_of_not_mem _ _ _ ?_]
    rw [View.setOn_univ, View.set_slice]
    exact fun h => hj ((Finset.mem_map' M.view.emb).mp h)

theorem store_part (w' : r.shape.Idx → Elt F e) (hx : (M.access r).Stores Finset.univ) (hm : Finset.univ = Finset.univ ∨ ∀ a, r.stride a = 1)
    (w : s.Idx → Elt F e) (Kt : PUnit → sProp (𝕄 F)) :
    iprop(has c M w ∗ (has c M (r.overlay w w') -∗ Kt ⟨⟩))
      ⊢ wpc c (Prog.lift (.store (cs := .vmem) M r w' Finset.univ hx hm)) Kt := by
  unfold has owns
  iintro ⟨⟨%f, %hf, H⟩, Hk⟩
  subst hf
  unfold Prog.lift
  iapply (wp_store (m := M) (r := r) (w := w') 𝒱₀ (c : Thread nD τ) none Set.univ (S := M.view.set) (f := f)
    (by rw [View.setOn_univ]; exact View.set_slice_subset M.view r)) $$ H
  iintro H
  rw [wp_ret]
  imodintro
  iapply Hk
  iexists ((M.access r).write (Elt F) f w' Finset.univ)
  isplitr; · ipureintro; exact read_write_part M r f w'
  iexact H

variable (hr : ∀ a, r.stride a = 1)

theorem load_slot (hl : M.view.LoadsAt r.toLoadRect) (w : r.shape.Idx → Elt F e) (Kt : (r.shape.Idx → Elt F e) → sProp (𝕄 F)) :
    iprop(has c (M.slice r hr) w ∗ (has c (M.slice r hr) w -∗ Kt w)) ⊢ wpc c (Prog.lift (.load (cs := .vmem) M r.toLoadRect hl)) Kt := by
  unfold has owns
  iintro ⟨⟨%f, %hf, H⟩, Hk⟩
  subst hf
  unfold Prog.lift
  iapply (wp_load_rect (m := M) (r := r) 𝒱₀ (c : Thread nD τ) none Set.univ (S := (M.access r).set) (f := f) (Finset.Subset.refl _)) $$ H
  iintro H
  rw [wp_ret]
  imodintro
  iapply Hk
  iexists f
  isplitr; · ipureintro; rfl
  iexact H

theorem store_slot (w' : r.shape.Idx → Elt F e) (hx : (M.access r).Stores Finset.univ) (hm : Finset.univ = Finset.univ ∨ ∀ a, r.stride a = 1)
    (Kt : PUnit → sProp (𝕄 F)) :
    iprop(any F c (M.slice r hr) ∗ (has c (M.slice r hr) w' -∗ Kt ⟨⟩))
      ⊢ wpc c (Prog.lift (.store (cs := .vmem) M r w' Finset.univ hx hm)) Kt := by
  unfold any has owns
  iintro ⟨⟨%w, %f, %hf, H⟩, Hk⟩
  unfold Prog.lift
  iapply (wp_store (m := M) (r := r) (w := w') 𝒱₀ (c : Thread nD τ) none Set.univ (S := (M.access r).set) (f := f)
    (by rw [View.setOn_univ])) $$ H
  iintro H
  rw [wp_ret]
  imodintro
  iapply Hk
  iexists ((M.access r).write (Elt F) f w' Finset.univ)
  isplitr; · ipureintro; exact View.read_write_univ (v := M.access r) f w'
  iexact H

end Memory

/-! ## Signals, waits, copies -/

/-- Signalling a barrier pays one of its duties. -/
theorem signal_bar (d : Dev nD) (u : Bool) (O : CellTallies nD τ sig Unit) (P : sProp (𝕄 F))
    (hP : P = (sched x).payload (barCell d) 0 u) (hr : τ.routes (c : Thread nD τ) (d : Thread nD τ) = true) (Kt : PUnit → sProp (𝕄 F)) :
    iprop(facts x K ∗ owing c (O + tallyAt (barCell d) () 1) ∗ dutyTok ER (barCell d) 0 u ∗ P ∗ (owing c O -∗ Kt ⟨⟩))
      ⊢ wpc c (semSignalWord d barS 1#32) Kt := by
  subst hP
  unfold owing
  iintro ⟨#HF, ⟨%W, HO⟩, Ht, HP, Hk⟩
  iapply (Rounds.wp_signal 𝒱₀ ER (sched x) (c : Thread nD τ) none (dst := (d : Thread nD τ)) (sem := barS) (r := 0) (d := u) (κ := K (barCell d))
      (k' := 1) (by rw [duties_bar]; cases u <;> decide) (amount_bar x d u) () O rfl (hr := hr)) $$ [HO Ht HP]
  · isplitr; · iapply (facts_bar x K d); iexact HF
    isplitl [HO]; · iexact HO
    isplitl [Ht]; · iexact Ht
    isplitl [HP]; · iexact HP
    iapply (facts_reached x K d); iexact HF
  iintro HO
  rw [wp_ret]
  imodintro
  iapply Hk
  iexists W; iexact HO

/-- Waiting for both neighbours' signals. -/
theorem wait_bar (O : CellTallies nD τ sig Unit) (hO : Above 1 O) (Kt : PUnit → sProp (𝕄 F)) :
    iprop(facts x K ∗ owing c O ∗ cred (tallyAt (barCell c) () 2) ∗ atPos ER (barCell c) 0 ∅ 0
        ∗ (owing c O ∗ atPos ER (barCell c) 1 ∅ 0 ∗ acrossPay (across c) ∗ besidePay (beside c) -∗ Kt ⟨⟩))
      ⊢ wpc c (assemble (F := F)) Kt := by
  unfold owing
  iintro ⟨#HF, ⟨%W, HO⟩, Hc, Ha, Hk⟩
  iapply (Rounds.wp_wait_rest_token 𝒱₀ ER (sched x) (c : Thread nD τ) none (κ := K (barCell c))
      (wpE_semWait_eq 𝒱₀ (c : Thread nD τ) none Set.univ (sem := barS) (k := 2)) (Set.mem_univ _) () (O := O) (W := W) (R := 0) (m := 0) (T := ∅)
      ((Nat.zero_add 2).trans (expect_bar x c).symm)) $$ [HO Hc Ha]
  · isplitr; · iapply (facts_bar x K c); iexact HF
    isplitl [Hc]; · iexact Hc
    isplitl [HO]; · iexact HO
    isplitr
    · iapply (mayWait_of_above (F := F) (c := c) (sm := .reg barS) (O := O) (n := 1) (by rw [lv_bar]) hO)
      iapply (facts_levels x K); iexact HF
    iexact Ha
  iintro ⟨HO, Ha, -, HP⟩
  ihave HP' := (Entails.of_eq (rest_bar x c)) $$ HP
  icases HP' with ⟨HA, HB⟩
  rw [wp_ret]
  imodintro
  iapply Hk
  isplitl [HO]; · iexists _; iexact HO
  isplitl [Ha]; · iexact Ha
  isplitl [HA] <;> iassumption

/-- Waiting on one of the kernel's own semaphores hands over what it brings. -/
theorem wait_site (k : Site) {w : TpuEff nD τ sig (Elt F) Λ₀ .tc PUnit}
    (hw : ∀ Q : PUnit → sProp (𝕄 F), wpE (defs₀ (F := F)) 𝒱₀ (c : Thread nD τ) none Set.univ w Q
      = waitSpec (c : Thread nD τ) Set.univ (siteSem k) (siteAmt k) Q)
    (O : CellTallies nD τ sig Unit) (hO : Above (siteLv k) O) (Kt : PUnit → sProp (𝕄 F)) :
    iprop(facts x K ∗ owing c O ∗ credit F c k ∗ before F c k ∗ (owing c O ∗ after F c k ∗ sitePay x c k -∗ Kt ⟨⟩))
      ⊢ wpc c (Prog.lift w) Kt := by
  unfold owing
  iintro ⟨#HF, ⟨%W, HO⟩, Hc, Ha, Hk⟩
  unfold Prog.lift
  iapply (Rounds.wp_wait_rest_token 𝒱₀ ER (sched x) (c : Thread nD τ) none (κ := K (cell c k))
      hw (Set.mem_univ _) () (O := O) (W := W) (R := 0) (m := 0) (T := ∅)
      ((Nat.zero_add _).trans (expect_site x c k).symm)) $$ [HO Hc Ha]
  · isplitr; · iapply (facts_site x K c k); iexact HF
    isplitl [Hc]; · iexact Hc
    isplitl [HO]; · iexact HO
    isplitr
    · iapply (mayWait_of_above (F := F) (c := c) (sm := siteSem k) (O := O) (n := siteLv k) (by rw [lv_site]) hO)
      iapply (facts_levels x K); iexact HF
    iexact Ha
  iintro ⟨HO, Ha, -, HP⟩
  ihave HP' := (Entails.of_eq (rest_site x c k)) $$ HP
  rw [wp_ret]
  imodintro
  iapply Hk
  isplitl [HO]; · iexists _; iexact HO
  isplitl [Ha] <;> iassumption

/-- A copy to device `d` pays the duty of the cell there with what has landed, and the duty of the cell here with the
    source. -/
theorem send_site {s : Shape} {e : EltTy} (d : Dev nD) (src dst : Memref sig .tc .vmem s e) (kS kR : Site) {sS sR : DmaSem sig}
    (hS : siteSem kS = .dma sS) (hR : siteSem kR = .dma sR)
    (hw : src.view.WordExact) (hw' : dst.view.WordExact) (hty : DmaTarget.Typed (nD := nD) (τ := τ) (sig := sig) (p := .tc) .vmem (.dma sR) (.remote (Dev.tc d) dst (.dma sS)))
    (hN : dst.view.dmaCredit = siteAmt kR) (hSR : siteAmt kS = siteAmt kR) (w : s.Idx → Elt F e)
    (h₁ : has c src w ⊢ sitePay x c kS) (h₂ : has d dst w ⊢ sitePay x d kR)
    (O : CellTallies nD τ sig Unit) (hr : τ.routes (c : Thread nD τ) (d : Thread nD τ) = true) (Kt : PUnit → sProp (𝕄 F)) :
    iprop(facts x K ∗ owing c (O + tallyAt (cell d kR) () (siteAmt kR)) ∗ has c src w ∗ any F d dst
        ∗ token F c kS ∗ opened F c kS ∗ token F d kR ∗ opened F d kR ∗ (owing c O ∗ credit F c kS -∗ Kt ⟨⟩))
      ⊢ wpc c (Prog.lift (.enqueueDma src (.remote (Dev.tc d) dst (.dma sS)) (.dma sR) hw hw' hty)) Kt := by
  have e₁ : (sched x).payload ((c : Thread nD τ), .dma sS) 0 false = sitePay x c kS := by rw [← hS]; exact payload_site x c kS false
  have e₂ : (sched x).payload ((d : Thread nD τ), .dma sR) 0 false = sitePay x d kR := by rw [← hR]; exact payload_site x d kR false
  have hin : ∀ {c : Dev nD} {M : Memref sig .tc .vmem s e} {f : M.view.ty.Contents (Elt F)}, M.view.read (Elt F) f = w →
      ((M.view.loc (c : Thread nD τ) ↦[M.view.set]{fullShare} f : sProp (𝕄 F)) ⊢ has c M w) := fun {c M f} h => by
    rw [← h]; exact owns_intro (c : Thread nD τ) M fullShare f
  unfold owing any
  iintro ⟨#HF, ⟨%W, HO⟩, Hsrc, ⟨%wd, Hdst⟩, HtS, #HrS, HtR, #HrR, Hk⟩
  ihave Hsrc' := (show (has c src w : sProp (𝕄 F)) ⊢ iprop(∃ f, ⌜src.view.read (Elt F) f = w⌝ ∗ (src.view.loc (c : Thread nD τ) ↦[src.view.set]{fullShare} f)) from .rfl) $$ Hsrc
  ihave Hdst' := (show (has d dst wd : sProp (𝕄 F)) ⊢ iprop(∃ f, ⌜dst.view.read (Elt F) f = wd⌝ ∗ (dst.view.loc (d : Thread nD τ) ↦[dst.view.set]{fullShare} f)) from .rfl) $$ Hdst
  icases Hsrc' with ⟨%fs, %hfs, Hsrc⟩
  icases Hdst' with ⟨%fd, %hfd, Hdst⟩
  unfold Prog.lift
  iapply (Rounds.wp_send_pointsTo 𝒱₀ ER (sched x) (c : Thread nD τ) none (c' := (d : Thread nD τ)) (src := src) (dst := dst)
      (sS := .dma sS) (sem := .dma sR) (q := fullShare) (fs := fs) (fd := fd) (κ₁ := K (cell c kS)) (κ₂ := K (cell d kR))
      (r₁ := 0) (r₂ := 0) (d₁ := false) (d₂ := false)
      (by rw [← hS]; rw [duties_site]; exact Finset.mem_singleton_self _) (by rw [← hR]; rw [duties_site]; exact Finset.mem_singleton_self _)
      () () (siteAmt kR) hN (by rw [← hS]; exact (amount_site x c kS false).trans hSR) (by rw [← hR]; exact amount_site x d kR false)
      O (O₀ := O + tallyAt (cell d kR) () (siteAmt kR)) (by rw [← hR]) (W := W)
      ((hin hfs).trans (h₁.trans (Entails.of_eq e₁.symm)))
      ((hin ((View.read_write_univ (v := dst.view) fd _).trans hfs)).trans (h₂.trans (Entails.of_eq e₂.symm))) (hr := hr)) $$ [HO Hsrc Hdst HtS HtR]
  · rw [← hS, ← hR]
    isplitr; · iapply (facts_site x K c kS); iexact HF
    isplitr; · iapply (facts_site x K d kR); iexact HF
    isplitl [Hsrc]; · iexact Hsrc
    isplitl [Hdst]; · iexact Hdst
    isplitl [HO]; · iexact HO
    isplitl [HtS]; · iexact HtS
    isplitr; · iexact HrS
    isplitl [HtR]; · iexact HtR
    iexact HrR
  rw [← hS, ← hSR]
  iintro ⟨Hc, HO⟩
  rw [wp_ret]
  imodintro
  iapply Hk
  isplitl [HO]; · iexists W; iexact HO
  iexact Hc

end Cert.KernelIdeal.Attn

end
-- ==== Proof.Places.lean ====
module

public import proofs.«01_k».proof.Proof.Protocol

@[expose] public section

/-! # Where the heads lie

The places of the eight heads are disjoint and fill their arrays; a device's own heads and the others fill the array of
sixteen. -/

noncomputable section

namespace Cert.KernelIdeal.Attn

open Idealize.ShloMosaic Idealize.ShloMosaic.TcCoe
open Cert.KernelIdeal Cert.KernelIdeal.Gen

/-- One row of an array of eight rows. -/
theorem row_mem {n m : ℕ} {j : Fin 8} {h : ∀ a, (![j.val, 0, 0] : Fin 3 → ℕ) a + (![1, n, m] : Fin 3 → ℕ) a ≤ (![8, n, m] : Fin 3 → ℕ) a}
    (i : (⟨3, ![8, n, m]⟩ : Shape).Idx) :
    i ∈ (Rect.unit (s := ⟨3, ![8, n, m]⟩) ![j.val, 0, 0] ![1, n, m] h).set ↔ (i 0).val = j.val := by
  rw [Rect.mem_set_unit]
  constructor
  · intro hi
    have := hi 0
    simp only [Matrix.cons_val_zero] at this
    omega
  · intro hi a
    fin_cases a
    · exact ⟨hi.ge, by show (i 0).val < j.val + 1; omega⟩
    · exact ⟨Nat.zero_le _, by show (i 1).val < 0 + n; rw [Nat.zero_add]; exact (i 1).isLt⟩
    · exact ⟨Nat.zero_le _, by show (i 2).val < 0 + m; rw [Nat.zero_add]; exact (i 2).isLt⟩

theorem row_apart {n m : ℕ} (j j' : Fin 8) (hj : j ≠ j')
    {h : ∀ a, (![j.val, 0, 0] : Fin 3 → ℕ) a + (![1, n, m] : Fin 3 → ℕ) a ≤ (![8, n, m] : Fin 3 → ℕ) a}
    {h' : ∀ a, (![j'.val, 0, 0] : Fin 3 → ℕ) a + (![1, n, m] : Fin 3 → ℕ) a ≤ (![8, n, m] : Fin 3 → ℕ) a} :
    Disjoint (Rect.unit (s := ⟨3, ![8, n, m]⟩) ![j.val, 0, 0] ![1, n, m] h).set (Rect.unit (s := ⟨3, ![8, n, m]⟩) ![j'.val, 0, 0] ![1, n, m] h').set :=
  Finset.disjoint_left.mpr fun i hi hi' => hj (Fin.ext (((row_mem i).mp hi).symm.trans ((row_mem i).mp hi')))

theorem row_cover {n m : ℕ}
    {h : ∀ j : Fin 8, ∀ a, (![j.val, 0, 0] : Fin 3 → ℕ) a + (![1, n, m] : Fin 3 → ℕ) a ≤ (![8, n, m] : Fin 3 → ℕ) a} :
    (Finset.univ : Finset (Fin 8)).biUnion (fun j => (Rect.unit (s := ⟨3, ![8, n, m]⟩) ![j.val, 0, 0] ![1, n, m] (h j)).set) = Finset.univ :=
  Finset.eq_univ_iff_forall.mpr fun i => Finset.mem_biUnion.mpr ⟨i 0, Finset.mem_univ _, (row_mem i).mpr rfl⟩

theorem rK_apart (j j' : Fin 8) (hj : j ≠ j') : Disjoint (rK j).set (rK j').set := row_apart j j' hj
theorem rC_apart (j j' : Fin 8) (hj : j ≠ j') : Disjoint (rC j).set (rC j').set := row_apart j j' hj
theorem rO_apart (j j' : Fin 8) (hj : j ≠ j') : Disjoint (rO j).set (rO j').set := row_apart j j' hj
theorem rK_cover : (Finset.univ : Finset (Fin 8)).biUnion (fun j => (rK j).set) = Finset.univ := row_cover
theorem rO_cover : (Finset.univ : Finset (Fin 8)).biUnion (fun j => (rO j).set) = Finset.univ := row_cover

/-- Writing one place leaves a disjoint one alone. -/
theorem overlay_apart {s : Shape} {α : Type} {r r' : Rect s} (h : Disjoint r.set r'.set) (w : s.Idx → α) (u : r.shape.Idx → α) :
    (fun i => r.overlay w u (r'.emb i)) = fun i => w (r'.emb i) :=
  funext fun i => Rect.overlay_of_not_mem r w u (fun hi => Finset.disjoint_left.mp h hi (by
    rw [← Rect.map_emb_univ]; exact Finset.mem_map_of_mem _ (Finset.mem_univ i)))
theorem overlay_here {s : Shape} {α : Type} (r : Rect s) (w : s.Idx → α) (u : r.shape.Idx → α) :
    (fun i => r.overlay w u (r.emb i)) = u := funext fun i => Rect.overlay_emb r w u i

/-! ## The sixteen heads -/

/-- Which half of the heads a device computes. -/
def side (d : Dev nD) : ℕ := d.val / 2
theorem side_le (d : Dev nD) : side d ≤ 1 := by revert d; decide

theorem off_mine (d : Dev nD) (j : Fin 8) : k0_off1 d (BitVec.ofNat 32 j.val) = ![8 * side d + j.val, 0, 0] := by revert d j; decide
theorem off_theirs (d : Dev nD) (j : Fin 8) : k0_off2 d (BitVec.ofNat 32 j.val) = ![8 * (1 - side d) + j.val, 0, 0] := by revert d j; decide

theorem slab_mem {off : Fin 3 → ℕ} {b : ℕ} (ho : off = ![b, 0, 0]) {h : ∀ a, off a + S1x512x64.size a ≤ S16x512x64.size a} (i : S16x512x64.Idx) :
    i ∈ (Rect.unit (s := S16x512x64) off S1x512x64.size h).set ↔ (i 0).val = b := by
  subst ho
  rw [Rect.mem_set_unit]
  constructor
  · intro hi
    have := hi 0
    have e : S1x512x64.size 0 = 1 := rfl
    simp only [Matrix.cons_val_zero] at this
    omega
  · intro hi a
    fin_cases a
    · exact ⟨hi.ge, by show (i 0).val < b + 1; omega⟩
    · exact ⟨Nat.zero_le _, by show (i 1).val < 0 + 512; rw [Nat.zero_add]; exact (i 1).isLt⟩
    · exact ⟨Nat.zero_le _, by show (i 2).val < 0 + 64; rw [Nat.zero_add]; exact (i 2).isLt⟩

theorem mine_mem (d : Dev nD) (j : Fin 8) (i : S16x512x64.Idx) : i ∈ (rMine d j).set ↔ (i 0).val = 8 * side d + j.val := slab_mem (off_mine d j) i
theorem theirs_mem (d : Dev nD) (j : Fin 8) (i : S16x512x64.Idx) : i ∈ (rTheirs d j).set ↔ (i 0).val = 8 * (1 - side d) + j.val :=
  slab_mem (off_theirs d j) i

theorem mine_apart (d : Dev nD) (j j' : Fin 8) (hj : j ≠ j') : Disjoint (rMine d j).set (rMine d j').set :=
  Finset.disjoint_left.mpr fun i hi hi' => hj (Fin.ext (by rw [mine_mem] at hi hi'; omega))
theorem theirs_apart (d : Dev nD) (j j' : Fin 8) (hj : j ≠ j') : Disjoint (rTheirs d j).set (rTheirs d j').set :=
  Finset.disjoint_left.mpr fun i hi hi' => hj (Fin.ext (by rw [theirs_mem] at hi hi'; omega))
theorem mine_theirs (d : Dev nD) (j j' : Fin 8) : Disjoint (rMine d j).set (rTheirs d j').set :=
  Finset.disjoint_left.mpr fun i hi hi' => by
    rw [mine_mem] at hi; rw [theirs_mem] at hi'
    have := side_le d; omega

/-- A place within a head. -/
def within (i : S16x512x64.Idx) : S1x512x64.Idx
  | ⟨0, _⟩ => (0 : Fin 1)
  | ⟨1, _⟩ => i 1
  | ⟨2, _⟩ => i 2

theorem slab_emb {off : Fin 3 → ℕ} {b : ℕ} (ho : off = ![b, 0, 0]) {h : ∀ a, off a + S1x512x64.size a ≤ S16x512x64.size a} (i : S16x512x64.Idx)
    (hi : (i 0).val = b) : (Rect.unit (s := S16x512x64) off S1x512x64.size h).emb (within i) = i := by
  subst ho
  funext a
  apply Fin.ext
  fin_cases a
  · show b + 1 * 0 = (i 0).val; omega
  · show 0 + 1 * (i 1).val = (i 1).val; omega
  · show 0 + 1 * (i 2).val = (i 2).val; omega

theorem mine_emb (d : Dev nD) (j : Fin 8) (i : S16x512x64.Idx) (hi : (i 0).val = 8 * side d + j.val) : (rMine d j).emb (within i) = i :=
  slab_emb (off_mine d j) i hi
theorem theirs_emb (d : Dev nD) (j : Fin 8) (i : S16x512x64.Idx) (hi : (i 0).val = 8 * (1 - side d) + j.val) : (rTheirs d j).emb (within i) = i :=
  slab_emb (off_theirs d j) i hi

/-- The place of a head in its half. -/
def headOf (i : S16x512x64.Idx) : Fin 8 := ⟨(i 0).val % 8, Nat.mod_lt _ (by decide)⟩

theorem head_cases (d : Dev nD) (i : S16x512x64.Idx) :
    ((i 0).val / 8 = side d ∧ (i 0).val = 8 * side d + (headOf i).val) ∨ ((i 0).val / 8 ≠ side d ∧ (i 0).val = 8 * (1 - side d) + (headOf i).val) := by
  have h16 : (i 0).val < 16 := (i 0).isLt
  have := side_le d
  unfold headOf
  by_cases h : (i 0).val / 8 = side d
  · left; exact ⟨h, by show _ = 8 * side d + (i 0).val % 8; omega⟩
  · right; exact ⟨h, by show _ = 8 * (1 - side d) + (i 0).val % 8; omega⟩

section Out
variable {F : FTy → Type} [FloatOps F] [Named F] (x : Inputs F)

/-- The output of device `d`: its own heads, and the others as they were received. -/
def outAt (d : Dev nD) : S16x512x64.Idx → Elt F .f32 := fun i =>
  if (i 0).val / 8 = side d then mineAt x d (headOf i) (within i) else theirsAt x d (headOf i) (within i)

theorem outAt_of (d : Dev nD) (w : S16x512x64.Idx → Elt F .f32) (h₁ : ∀ j, (fun i => w ((rMine d j).emb i)) = mineAt x d j)
    (h₂ : ∀ j, (fun i => w ((rTheirs d j).emb i)) = theirsAt x d j) : w = outAt x d := by
  funext i
  unfold outAt
  rcases head_cases d i with ⟨h, e⟩ | ⟨h, e⟩
  · rw [if_pos h, ← h₁]; exact congrArg w (mine_emb d _ i e).symm
  · rw [if_neg h, ← h₂]; exact congrArg w (theirs_emb d _ i e).symm

end Out

end Cert.KernelIdeal.Attn

end
-- ==== Proof.Pieces.lean ====
module

public import proofs.«01_k».proof.Proof.Steps
public import proofs.«01_k».proof.Proof.Places

@[expose] public section

/-! # What each piece of the kernel does

For each piece, what it takes and what it leaves, at any device. -/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (x : Inputs F) (K : GSem nD τ sig → ℕ) (c : Dev nD)

/-! ## Amounts -/

theorem credit_kvS (j : Fin 8) : (slotK kvS j).view.dmaCredit = NK := rfl
theorem credit_kvR (j : Fin 8) : (slotK kvR j).view.dmaCredit = NK := rfl
theorem credit_oxS (j : Fin 8) : (slotO oxS j).view.dmaCredit = NO := rfl
theorem credit_oxR (j : Fin 8) : (slotO oxR j).view.dmaCredit = NO := rfl
theorem credit_scS : scS.view.dmaCredit = NC := rfl

theorem routes_tc (d : Dev nD) : τ.routes (c : Thread nD τ) (d : Thread nD τ) = true := by revert c d; decide

/-- Waiting for a transfer. -/
theorem wait_dma (k : Site) {s s' : Shape} {e e' : EltTy} {sm : DmaSem sig} (src : Memref sig .tc .vmem s e) (dst : Memref sig .tc .vmem s' e')
    (h₁ : src.view.WordExact) (h₂ : dst.view.WordExact) (hS : siteSem k = .dma sm) (hN : dst.view.dmaCredit = siteAmt k)
    (O : CellTallies nD τ sig Unit) (hO : Above (siteLv k) O) (Kt : PUnit → sProp (𝕄 F)) :
    iprop(facts x K ∗ owing c O ∗ credit F c k ∗ before F c k ∗ (owing c O ∗ after F c k ∗ sitePay x c k -∗ Kt ⟨⟩))
      ⊢ wpc c (Prog.lift (.waitDma2 sm src dst h₁ h₂)) Kt :=
  wait_site x K c k (fun Q => by rw [hS, ← hN]; rfl) O hO Kt

/-! ## The pieces -/

theorem announce_spec (Kt : PUnit → sProp (𝕄 F)) :
    iprop(facts x K ∗ owing c (owedAll c) ∗ dutyTok ER (barCell (across c)) 0 false ∗ dutyTok ER (barCell (beside c)) 0 true
        ∗ acrossPay c ∗ besidePay c ∗ (owing c (owedSteps c) -∗ Kt ⟨⟩))
      ⊢ wpc c (announce (F := F) c) Kt := by
  iintro ⟨#HF, HO, Ht, Hu, HA, HB, Hk⟩
  unfold announce owedAll
  simp only [wp_bind]
  iapply (signal_bar x K c (across c) false _ (acrossPay c) (by rw [payload_across, across_across]) (routes_tc c _)) $$ [HO Ht HA Hu HB Hk]
  isplitr; · iexact HF
  isplitl [HO]; · iexact HO
  isplitl [Ht]; · iexact Ht
  isplitl [HA]; · iexact HA
  iintro HO
  iapply (signal_bar x K c (beside c) true _ (besidePay c) (by rw [payload_beside, beside_beside]) (routes_tc c _)) $$ [HO Hu HB Hk]
  isplitr; · iexact HF
  isplitl [HO]; · iexact HO
  isplitl [Hu]; · iexact Hu
  isplitl [HB]; · iexact HB
  iexact Hk

/-- An array of steps after head `j`'s have been written. -/
theorem stepsFrom_write (M : Memref sig .tc .vmem S8x512x2 .bf16) (d : Dev nD) (j : Fin 8) (l : List (Fin 8)) (w : S8x512x2.Idx → Elt F .bf16)
    (hw : ∀ j', j' ∉ j :: l → (fun i => w ((rC j').emb i)) = stepsAt x d j') :
    has c M ((rC j).overlay w (stepsAt x d j)) ⊢ stepsFrom x c M d l := by
  unfold stepsFrom
  iintro H
  iexists _
  isplitr
  · ipureintro
    intro j' hj'
    by_cases e : j' = j
    · subst e; exact overlay_here (rC j') w _
    · rw [overlay_apart (rC_apart j j' (Ne.symm e))]
      exact hw j' (fun h => by rcases List.mem_cons.mp h with h | h <;> contradiction)
  · iexact H

theorem quantise_spec (j : Fin 8) (l : List (Fin 8)) (Kt : PUnit → sProp (𝕄 F)) :
    iprop((has c kM (x.k c) ∗ has c vM (x.v c) ∗ stepsFrom x c scS c (j :: l)) ∗ any F c (slotK kvS j)
        ∗ ((has c kM (x.k c) ∗ has c vM (x.v c) ∗ stepsFrom x c scS c l) ∗ has c (slotK kvS j) (codesAt x c j) -∗ Kt ⟨⟩))
      ⊢ wpc c (quantise (F := F) c j) Kt := by
  iintro ⟨⟨Hk, Hv, Hs⟩, ⟨%w, Hc⟩, HK⟩
  ihave Hs' := (show stepsFrom x c scS c (j :: l) ⊢ iprop(∃ w : S8x512x2.Idx → Elt F .bf16,
    ⌜∀ j', j' ∉ j :: l → (fun i => w ((rC j').emb i)) = stepsAt x c j'⌝ ∗ has c scS w) from .rfl) $$ Hs
  icases Hs' with ⟨%ws, %hws, Hs⟩
  unfold quantise
  simp only [wp_bind]
  iapply (load_part c kM (rMine c j) _ (x.k c)) $$ [Hk Hv Hc Hs HK]
  isplitl [Hk]; · iexact Hk
  iintro Hk
  iapply (load_part c vM (rMine c j) _ (x.v c)) $$ [Hk Hv Hc Hs HK]
  isplitl [Hv]; · iexact Hv
  iintro Hv
  iapply (load_slot c kvS (rK j) (fun _ => rfl) _ w) $$ [Hk Hv Hc Hs HK]
  isplitl [Hc]; · iexact Hc
  iintro Hc
  iapply (store_slot c kvS (rK j) (fun _ => rfl)) $$ [Hk Hv Hc Hs HK]
  isplitl [Hc]; · iexists w; iexact Hc
  iintro Hc
  iapply (load_part c scS (rC j) _ ws) $$ [Hk Hv Hc Hs HK]
  isplitl [Hs]; · iexact Hs
  iintro Hs
  iapply (store_part c scS (rC j) _ _ _ ws) $$ [Hk Hv Hc Hs HK]
  isplitl [Hs]; · iexact Hs
  iintro Hs
  iapply HK
  isplitr [Hc]
  · isplitl [Hk]; · iexact Hk
    isplitl [Hv]; · iexact Hv
    iapply (stepsFrom_write x c scS c j l ws hws)
    iexact Hs
  · iexact Hc

theorem sendSteps_spec (Kt : PUnit → sProp (𝕄 F)) :
    iprop(facts x K ∗ owing c (owedSteps c) ∗ stepsFrom x c scS c [] ∗ any F (across c) scR ∗ token F c stepsOut ∗ opened F c stepsOut
        ∗ token F (across c) stepsIn ∗ opened F (across c) stepsIn ∗ (owing c (owedCodes c heads) ∗ credit F c stepsOut -∗ Kt ⟨⟩))
      ⊢ wpc c (sendSteps (F := F) c) Kt := by
  iintro ⟨#HF, HO, Hs, Hd, H1, H2, H3, H4, HK⟩
  ihave Hs' := (show stepsFrom x c scS c [] ⊢ iprop(∃ w : S8x512x2.Idx → Elt F .bf16,
    ⌜∀ j', j' ∉ ([] : List (Fin 8)) → (fun i => w ((rC j').emb i)) = stepsAt x c j'⌝ ∗ has c scS w) from .rfl) $$ Hs
  icases Hs' with ⟨%ws, %hws, Hs⟩
  unfold sendSteps owedSteps
  iapply (send_site x K c (across c) scS scR stepsOut stepsIn rfl rfl _ _ _ rfl rfl ws
    (by show _ ⊢ any F c scS; iintro H; iexists ws; iexact H)
    (by
      show _ ⊢ stepsFrom x (across c) scR (across (across c)) []
      rw [across_across]; unfold stepsFrom
      iintro H; iexists ws
      isplitr; · ipureintro; exact hws
      iexact H)
    (owedCodes c heads) (routes_tc c _)) $$ [HO Hs Hd H1 H2 H3 H4 HK]
  isplitr; · iexact HF
  isplitl [HO]; · iexact HO
  isplitl [Hs]; · iexact Hs
  isplitl [Hd]; · iexact Hd
  isplitl [H1]; · iexact H1
  isplitl [H2]; · iexact H2
  isplitl [H3]; · iexact H3
  isplitl [H4]; · iexact H4
  iexact HK

/-- What sending head `j`'s codes takes. -/
def sendCodesNeeds (j : Fin 8) : sProp (𝕄 F) :=
  iprop(has c (slotK kvS j) (codesAt x c j) ∗ any F (across c) (slotK kvR j) ∗ token F c (codesOut j) ∗ opened F c (codesOut j)
    ∗ token F (across c) (codesIn j) ∗ opened F (across c) (codesIn j))

theorem sendCodes_spec (j : Fin 8) (l : List (Fin 8)) (Kt : PUnit → sProp (𝕄 F)) :
    iprop(facts x K ∗ owing c (owedCodes c (j :: l)) ∗ sendCodesNeeds x c j ∗ (owing c (owedCodes c l) ∗ credit F c (codesOut j) -∗ Kt ⟨⟩))
      ⊢ wpc c (sendCodes (F := F) c j) Kt := by
  unfold sendCodesNeeds
  iintro ⟨#HF, HO, ⟨Hs, Hd, H1, H2, H3, H4⟩, HK⟩
  unfold sendCodes
  iapply (send_site x K c (across c) (slotK kvS j) (slotK kvR j) (codesOut j) (codesIn j) rfl rfl _ _ _ (credit_kvR j) rfl (codesAt x c j)
    (by show _ ⊢ any F c (slotK kvS j); iintro H; iexists _; iexact H)
    (by
      show _ ⊢ has (across c) (slotK kvR j) (codesAt x (across (across c)) j)
      rw [across_across])
    (owedCodes c l) (routes_tc c _)) $$ [HO Hs Hd H1 H2 H3 H4 HK]
  isplitr; · iexact HF
  isplitl [HO]; · iexact HO
  isplitl [Hs]; · iexact Hs
  isplitl [Hd]; · iexact Hd
  isplitl [H1]; · iexact H1
  isplitl [H2]; · iexact H2
  isplitl [H3]; · iexact H3
  isplitl [H4]; · iexact H4
  iexact HK

/-- Head `j`'s own part stands in the accumulator. -/
def ownIn (j : Fin 8) : sProp (𝕄 F) :=
  iprop(∃ w : S8x512x65.Idx → Elt F .f32, ⌜(fun i => w ((rA j).emb i)) = ownAt x c j⌝ ∗ has c acM w)

theorem attendOwn_spec (j : Fin 8) (Kt : PUnit → sProp (𝕄 F)) :
    iprop((has c qM (x.q c) ∗ has c kM (x.k c) ∗ has c vM (x.v c)) ∗ any F c acM
        ∗ ((has c qM (x.q c) ∗ has c kM (x.k c) ∗ has c vM (x.v c)) ∗ ownIn x c j -∗ Kt ⟨⟩))
      ⊢ wpc c (attendOwn (F := F) c j) Kt := by
  iintro ⟨⟨Hq, Hk, Hv⟩, ⟨%w, Ha⟩, HK⟩
  unfold attendOwn
  simp only [wp_bind]
  iapply (load_part c kM (rMine c j) _ (x.k c)) $$ [Hq Hk Hv Ha HK]
  isplitl [Hk]; · iexact Hk
  iintro Hk
  iapply (load_part c qM (rMine c j) _ (x.q c)) $$ [Hq Hk Hv Ha HK]
  isplitl [Hq]; · iexact Hq
  iintro Hq
  iapply (load_part c vM (rMine c j) _ (x.v c)) $$ [Hq Hk Hv Ha HK]
  isplitl [Hv]; · iexact Hv
  iintro Hv
  iapply (load_part c acM (rA j) _ w) $$ [Hq Hk Hv Ha HK]
  isplitl [Ha]; · iexact Ha
  iintro Ha
  iapply (store_part c acM (rA j) _ _ _ w) $$ [Hq Hk Hv Ha HK]
  isplitl [Ha]; · iexact Ha
  iintro Ha
  iapply HK
  isplitr [Ha]
  · isplitl [Hq]; · iexact Hq
    isplitl [Hk]; · iexact Hk
    iexact Hv
  unfold ownIn
  iexists _
  isplitr; · ipureintro; exact overlay_here (rA j) w (ownAt x c j)
  iexact Ha

/-- The output, its own heads outside `l₁` and the others outside `l₂` in place. -/
def outPart (l₁ l₂ : List (Fin 8)) : sProp (𝕄 F) :=
  iprop(∃ w : S16x512x64.Idx → Elt F .f32, ⌜(∀ j, j ∉ l₁ → (fun i => w ((rMine c j).emb i)) = mineAt x c j)
    ∧ ∀ j, j ∉ l₂ → (fun i => w ((rTheirs c j).emb i)) = theirsAt x c j⌝ ∗ has c oM w)

theorem outPart_mine (j : Fin 8) (l₁ l₂ : List (Fin 8)) (w : S16x512x64.Idx → Elt F .f32)
    (hw : (∀ j', j' ∉ j :: l₁ → (fun i => w ((rMine c j').emb i)) = mineAt x c j') ∧ ∀ j', j' ∉ l₂ → (fun i => w ((rTheirs c j').emb i)) = theirsAt x c j') :
    has c oM ((rMine c j).overlay w (mineAt x c j)) ⊢ outPart x c l₁ l₂ := by
  unfold outPart
  iintro H
  iexists _
  isplitr
  · ipureintro
    refine ⟨fun j' hj' => ?_, fun j' hj' => ?_⟩
    · by_cases e : j' = j
      · subst e; exact overlay_here (rMine c j') w _
      · rw [overlay_apart (mine_apart c j j' (Ne.symm e))]
        exact hw.1 j' (fun h => by rcases List.mem_cons.mp h with h | h <;> contradiction)
    · rw [overlay_apart (mine_theirs c j j')]; exact hw.2 j' hj'
  · iexact H

theorem outPart_theirs (j : Fin 8) (l₁ l₂ : List (Fin 8)) (w : S16x512x64.Idx → Elt F .f32)
    (hw : (∀ j', j' ∉ l₁ → (fun i => w ((rMine c j').emb i)) = mineAt x c j') ∧ ∀ j', j' ∉ j :: l₂ → (fun i => w ((rTheirs c j').emb i)) = theirsAt x c j') :
    has c oM ((rTheirs c j).overlay w (theirsAt x c j)) ⊢ outPart x c l₁ l₂ := by
  unfold outPart
  iintro H
  iexists _
  isplitr
  · ipureintro
    refine ⟨fun j' hj' => ?_, fun j' hj' => ?_⟩
    · rw [overlay_apart (mine_theirs c j' j).symm]; exact hw.1 j' hj'
    · by_cases e : j' = j
      · subst e; exact overlay_here (rTheirs c j') w _
      · rw [overlay_apart (theirs_apart c j j' (Ne.symm e))]
        exact hw.2 j' (fun h => by rcases List.mem_cons.mp h with h | h <;> contradiction)
  · iexact H

theorem attendPeer_spec (j : Fin 8) (l₁ l₂ : List (Fin 8)) (Kt : PUnit → sProp (𝕄 F)) :
    iprop(has c qM (x.q c) ∗ stepsFrom x c scR (across c) [] ∗ ownIn x c j ∗ outPart x c (j :: l₁) l₂
        ∗ has c (slotK kvR j) (codesAt x (across c) j) ∗ any F c (slotO oxS j)
        ∗ (has c qM (x.q c) ∗ stepsFrom x c scR (across c) [] ∗ any F c acM ∗ outPart x c l₁ l₂
            ∗ has c (slotK kvR j) (codesAt x (across c) j) ∗ has c (slotO oxS j) (sentAt x c j) -∗ Kt ⟨⟩))
      ⊢ wpc c (attendPeer (F := F) c j) Kt := by
  iintro ⟨Hq, Hs, Ha, Ho, Hc, ⟨%wx, Hx⟩, HK⟩
  ihave Hs' := (show stepsFrom x c scR (across c) [] ⊢ iprop(∃ w : S8x512x2.Idx → Elt F .bf16,
    ⌜∀ j', j' ∉ ([] : List (Fin 8)) → (fun i => w ((rC j').emb i)) = stepsAt x (across c) j'⌝ ∗ has c scR w) from .rfl) $$ Hs
  icases Hs' with ⟨%ws, %hws, Hs⟩
  ihave Ha' := (show ownIn x c j ⊢ iprop(∃ w : S8x512x65.Idx → Elt F .f32, ⌜(fun i => w ((rA j).emb i)) = ownAt x c j⌝ ∗ has c acM w) from .rfl) $$ Ha
  icases Ha' with ⟨%wa, %hwa, Ha⟩
  ihave Ho' := (show outPart x c (j :: l₁) l₂ ⊢ iprop(∃ w : S16x512x64.Idx → Elt F .f32, ⌜(∀ j', j' ∉ j :: l₁ → (fun i => w ((rMine c j').emb i)) = mineAt x c j')
    ∧ ∀ j', j' ∉ l₂ → (fun i => w ((rTheirs c j').emb i)) = theirsAt x c j'⌝ ∗ has c oM w) from .rfl) $$ Ho
  icases Ho' with ⟨%wo, %hwo, Ho⟩
  unfold attendPeer
  simp only [wp_bind]
  iapply (load_part c scR (rC j) _ ws) $$ [Hq Hs Ha Ho Hc Hx HK]
  isplitl [Hs]; · iexact Hs
  iintro Hs
  rw [hws j List.not_mem_nil]
  iapply (load_slot c kvR (rK j) (fun _ => rfl) _ (codesAt x (across c) j)) $$ [Hq Hs Ha Ho Hc Hx HK]
  isplitl [Hc]; · iexact Hc
  iintro Hc
  iapply (load_slot c kvR (rK j) (fun _ => rfl) _ (codesAt x (across c) j)) $$ [Hq Hs Ha Ho Hc Hx HK]
  isplitl [Hc]; · iexact Hc
  iintro Hc
  iapply (load_part c qM (rMine c j) _ (x.q c)) $$ [Hq Hs Ha Ho Hc Hx HK]
  isplitl [Hq]; · iexact Hq
  iintro Hq
  iapply (load_part c acM (rA j) _ wa) $$ [Hq Hs Ha Ho Hc Hx HK]
  isplitl [Ha]; · iexact Ha
  iintro Ha
  rw [hwa]
  iapply (load_part c oM (rMine c j) _ wo) $$ [Hq Hs Ha Ho Hc Hx HK]
  isplitl [Ho]; · iexact Ho
  iintro Ho
  iapply (store_part c oM (rMine c j) _ _ _ wo) $$ [Hq Hs Ha Ho Hc Hx HK]
  isplitl [Ho]; · iexact Ho
  iintro Ho
  iapply (load_slot c oxS (rO j) (fun _ => rfl) _ wx) $$ [Hq Hs Ha Ho Hc Hx HK]
  isplitl [Hx]; · iexact Hx
  iintro Hx
  iapply (store_slot c oxS (rO j) (fun _ => rfl)) $$ [Hq Hs Ha Ho Hc Hx HK]
  isplitl [Hx]; · iexists wx; iexact Hx
  iintro Hx
  iapply HK
  isplitl [Hq]; · iexact Hq
  isplitl [Hs]
  · unfold stepsFrom; iexists ws
    isplitr; · ipureintro; exact hws
    iexact Hs
  isplitl [Ha]; · iexists wa; iexact Ha
  isplitl [Ho]
  · iapply (outPart_mine x c j l₁ l₂ wo hwo)
    iexact Ho
  isplitl [Hc]; · iexact Hc
  iexact Hx

theorem sendResult_spec (j : Fin 8) (l : List (Fin 8)) (Kt : PUnit → sProp (𝕄 F)) :
    iprop(facts x K ∗ owing c (owedRes c (j :: l)) ∗ has c (slotO oxS j) (sentAt x c j) ∗ any F (beside c) (slotO oxR j)
        ∗ token F c (resOut j) ∗ opened F c (resOut j) ∗ token F (beside c) (resIn j) ∗ opened F (beside c) (resIn j)
        ∗ (owing c (owedRes c l) ∗ credit F c (resOut j) -∗ Kt ⟨⟩))
      ⊢ wpc c (sendResult (F := F) c j) Kt := by
  unfold sendResult
  exact send_site x K c (beside c) (slotO oxS j) (slotO oxR j) (resOut j) (resIn j) rfl rfl _ _ _ (credit_oxR j) rfl (sentAt x c j)
    (by show _ ⊢ any F c (slotO oxS j); iintro H; iexists _; iexact H)
    (by
      show _ ⊢ has (beside c) (slotO oxR j) (sentAt x (beside (beside c)) j)
      rw [beside_beside])
    (owedRes c l) (routes_tc c _) Kt

/-- What receiving head `j`'s result takes, and what it leaves. -/
def receiveNeeds (F : FTy → Type) [FloatOps F] [Named F] (c : Dev nD) (j : Fin 8) : sProp (𝕄 F) := iprop(credit F c (resIn j) ∗ before F c (resIn j))
def receiveLeaves (F : FTy → Type) [FloatOps F] [Named F] (c : Dev nD) (j : Fin 8) : sProp (𝕄 F) := iprop(after F c (resIn j) ∗ any F c (slotO oxR j))

theorem receive_spec (j : Fin 8) (l : List (Fin 8)) (Kt : PUnit → sProp (𝕄 F)) :
    iprop(facts x K ∗ (owing c 0 ∗ outPart x c [] (j :: l)) ∗ receiveNeeds F c j
        ∗ ((owing c 0 ∗ outPart x c [] l) ∗ receiveLeaves F c j -∗ Kt ⟨⟩))
      ⊢ wpc c (receive (F := F) c j) Kt := by
  unfold receiveNeeds receiveLeaves
  iintro ⟨#HF, ⟨HO, Ho⟩, ⟨Hc, Hb⟩, HK⟩
  ihave Ho' := (show outPart x c [] (j :: l) ⊢ iprop(∃ w : S16x512x64.Idx → Elt F .f32, ⌜(∀ j', j' ∉ [] → (fun i => w ((rMine c j').emb i)) = mineAt x c j')
    ∧ ∀ j', j' ∉ j :: l → (fun i => w ((rTheirs c j').emb i)) = theirsAt x c j'⌝ ∗ has c oM w) from .rfl) $$ Ho
  icases Ho' with ⟨%wo, %hwo, Ho⟩
  unfold receive
  simp only [wp_bind]
  iapply (wait_dma x K c (resIn j) (slotO oxS j) (slotO oxR j) _ _ rfl (credit_oxR j) 0 (above_zero _)) $$ [HO Ho Hc Hb HK]
  isplitr; · iexact HF
  isplitl [HO]; · iexact HO
  isplitl [Hc]; · iexact Hc
  isplitl [Hb]; · iexact Hb
  iintro ⟨HO, Ha, Hp⟩
  ihave Hp' := (show sitePay x c (resIn j) ⊢ has c (slotO oxR j) (sentAt x (beside c) j) from .rfl) $$ Hp
  iapply (load_slot c oxR (rO j) (fun _ => rfl) _ (sentAt x (beside c) j)) $$ [HO Ho Ha Hp' HK]
  isplitl [Hp']; · iexact Hp'
  iintro Hp'
  iapply (load_part c oM (rTheirs c j) _ wo) $$ [HO Ho Ha Hp' HK]
  isplitl [Ho]; · iexact Ho
  iintro Ho
  iapply (store_part c oM (rTheirs c j) _ _ _ wo) $$ [HO Ho Ha Hp' HK]
  isplitl [Ho]; · iexact Ho
  iintro Ho
  iapply HK
  isplitl [HO Ho]
  · isplitl [HO]; · iexact HO
    iapply (outPart_theirs x c j [] l wo hwo)
    iexact Ho
  isplitl [Ha]; · iexact Ha
  iexists _; iexact Hp'

/-- What draining head `j` takes, and what it leaves. -/
def drainNeeds (F : FTy → Type) [FloatOps F] [Named F] (c : Dev nD) (j : Fin 8) : sProp (𝕄 F) :=
  iprop((credit F c (codesOut j) ∗ before F c (codesOut j)) ∗ credit F c (resOut j) ∗ before F c (resOut j))
def drainLeaves (F : FTy → Type) [FloatOps F] [Named F] (c : Dev nD) (j : Fin 8) : sProp (𝕄 F) :=
  iprop((after F c (codesOut j) ∗ any F c (slotK kvS j)) ∗ after F c (resOut j) ∗ any F c (slotO oxS j))

theorem drain_spec (j : Fin 8) (Kt : PUnit → sProp (𝕄 F)) :
    iprop(facts x K ∗ owing c 0 ∗ drainNeeds F c j ∗ (owing c 0 ∗ drainLeaves F c j -∗ Kt ⟨⟩))
      ⊢ wpc c (drain (F := F) j) Kt := by
  unfold drainNeeds drainLeaves
  iintro ⟨#HF, HO, ⟨⟨Hc, Hb⟩, Hc', Hb'⟩, HK⟩
  unfold drain
  simp only [wp_bind]
  iapply (wait_dma x K c (codesOut j) (slotK kvR j) (slotK kvS j) _ _ rfl (credit_kvS j) 0 (above_zero _)) $$ [HO Hc Hb Hc' Hb' HK]
  isplitr; · iexact HF
  isplitl [HO]; · iexact HO
  isplitl [Hc]; · iexact Hc
  isplitl [Hb]; · iexact Hb
  iintro ⟨HO, Ha, Hp⟩
  iapply (wait_dma x K c (resOut j) (slotO oxR j) (slotO oxS j) _ _ rfl (credit_oxS j) 0 (above_zero _)) $$ [HO Ha Hp Hc' Hb' HK]
  isplitr; · iexact HF
  isplitl [HO]; · iexact HO
  isplitl [Hc']; · iexact Hc'
  isplitl [Hb']; · iexact Hb'
  iintro ⟨HO, Ha', Hp'⟩
  iapply HK
  isplitl [HO]; · iexact HO
  isplitl [Ha Hp]
  · isplitl [Ha]; · iexact Ha
    iapply (show sitePay x c (codesOut j) ⊢ any F c (slotK kvS j) from .rfl); iexact Hp
  isplitl [Ha']; · iexact Ha'
  iapply (show sitePay x c (resOut j) ⊢ any F c (slotO oxS j) from .rfl); iexact Hp'

end Cert.KernelIdeal.Attn

end
-- ==== Proof.Whole.lean ====
module

public import proofs.«01_k».proof.Proof.Pieces

@[expose] public section

/-! # The whole kernel on one device

The pieces in order: what a device holds at the start becomes what it holds at the end. -/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F] (x : Inputs F) (K : GSem nD τ sig → ℕ) (c : Dev nD)

/-! ## Eight heads -/

/-- Something for each head of a list. -/
def each (A : Fin 8 → sProp (𝕄 F)) : List (Fin 8) → sProp (𝕄 F)
  | [] => iprop(emp)
  | j :: l => iprop(A j ∗ each A l)

/-- Something for each head. -/
abbrev all8 (A : Fin 8 → sProp (𝕄 F)) : sProp (𝕄 F) := bigSep Finset.univ A

theorem each_toFinset (A : Fin 8 → sProp (𝕄 F)) (l : List (Fin 8)) (hl : l.Nodup) : bigSep l.toFinset A = each A l := by
  induction l with
  | nil => exact BI.bigSep_empty
  | cons j l ih =>
    obtain ⟨hj, hl⟩ := List.nodup_cons.mp hl
    rw [List.toFinset_cons, bigSep_insert (fun h => hj (List.mem_toFinset.mp h)), ih hl]; rfl

theorem all8_eq (A : Fin 8 → sProp (𝕄 F)) : all8 A = each A heads := each_toFinset A heads (by decide)

theorem all8_pair (A B : Fin 8 → sProp (𝕄 F)) : all8 (fun j => iprop(A j ∗ B j)) = iprop(all8 A ∗ all8 B) := bigSep_sep' _ _ _
theorem all8_join (A B : Fin 8 → sProp (𝕄 F)) : iprop(all8 A ∗ all8 B) ⊢ all8 (fun j => iprop(A j ∗ B j)) := Entails.of_eq (all8_pair A B).symm
theorem all8_split (A B : Fin 8 → sProp (𝕄 F)) : all8 (fun j => iprop(A j ∗ B j)) ⊢ iprop(all8 A ∗ all8 B) := Entails.of_eq (all8_pair A B)
theorem all8_mono {A B : Fin 8 → sProp (𝕄 F)} (h : ∀ j, A j ⊢ B j) : all8 A ⊢ all8 B := BI.bigSep_mono fun j _ => h j

/-- A piece for each head of a list in turn: what is kept from one to the next, what each takes and leaves. -/
theorem inTurn_spec (f : Fin 8 → Piece F) (R : List (Fin 8) → sProp (𝕄 F)) (A B : Fin 8 → sProp (𝕄 F))
    (h : ∀ (j : Fin 8) (l : List (Fin 8)) (Kt : PUnit → sProp (𝕄 F)), iprop(facts x K ∗ R (j :: l) ∗ A j ∗ (R l ∗ B j -∗ Kt ⟨⟩)) ⊢ wpc c (f j) Kt)
    (l : List (Fin 8)) (Kt : PUnit → sProp (𝕄 F)) :
    iprop(facts x K ∗ R l ∗ each A l ∗ (R [] ∗ each B l -∗ Kt ⟨⟩)) ⊢ wpc c (inTurn f l) Kt := by
  induction l generalizing Kt with
  | nil =>
    unfold inTurn each
    iintro ⟨-, HR, -, HK⟩
    rw [show wpc c (pure PUnit.unit : Piece F) Kt = _ from wp_ret _ _ _ _ _]
    imodintro
    iapply HK
    isplitl [HR]; · iexact HR
    iempintro
  | cons j l ih =>
    unfold inTurn each
    simp only [wp_bind]
    iintro ⟨#HF, HR, ⟨HA, HAl⟩, HK⟩
    iapply (h j l) $$ [HR HA HAl HK]
    isplitr; · iexact HF
    isplitl [HR]; · iexact HR
    isplitl [HA]; · iexact HA
    iintro ⟨HR, HB⟩
    iapply (ih Kt) $$ [HR HAl HB HK]
    isplitr; · iexact HF
    isplitl [HR]; · iexact HR
    isplitl [HAl]; · iexact HAl
    iintro ⟨HR, HBl⟩
    iapply HK
    isplitl [HR]; · iexact HR
    isplitl [HB] <;> iassumption

theorem inTurn_heads (f : Fin 8 → Piece F) (R : List (Fin 8) → sProp (𝕄 F)) (A B : Fin 8 → sProp (𝕄 F))
    (h : ∀ (j : Fin 8) (l : List (Fin 8)) (Kt : PUnit → sProp (𝕄 F)), iprop(facts x K ∗ R (j :: l) ∗ A j ∗ (R l ∗ B j -∗ Kt ⟨⟩)) ⊢ wpc c (f j) Kt)
    (Kt : PUnit → sProp (𝕄 F)) :
    iprop(facts x K ∗ R heads ∗ all8 A ∗ (R [] ∗ all8 B -∗ Kt ⟨⟩)) ⊢ wpc c (inTurn f heads) Kt := by
  rw [all8_eq, all8_eq]; exact inTurn_spec x K c f R A B h heads Kt

/-! ## Attending -/

/-- The queries, keys and values of a device. -/
abbrev inputs : sProp (𝕄 F) := iprop(has c qM (x.q c) ∗ has c kM (x.k c) ∗ has c vM (x.v c))

/-- What attending to head `j` takes besides what is kept, and what it leaves. -/
def sendResultNeeds (F : FTy → Type) [FloatOps F] [Named F] (c : Dev nD) (j : Fin 8) : sProp (𝕄 F) :=
  iprop(any F (beside c) (slotO oxR j) ∗ token F c (resOut j) ∗ opened F c (resOut j) ∗ token F (beside c) (resIn j) ∗ opened F (beside c) (resIn j))
def attendNeeds (F : FTy → Type) [FloatOps F] [Named F] (c : Dev nD) (j : Fin 8) : sProp (𝕄 F) :=
  iprop((credit F c (codesIn j) ∗ before F c (codesIn j)) ∗ any F c (slotO oxS j) ∗ sendResultNeeds F c j)
def attendLeaves (F : FTy → Type) [FloatOps F] [Named F] (c : Dev nD) (j : Fin 8) : sProp (𝕄 F) :=
  iprop(after F c (codesIn j) ∗ any F c (slotK kvR j) ∗ credit F c (resOut j))
/-- What is kept while attending. -/
def attending (l : List (Fin 8)) : sProp (𝕄 F) :=
  iprop(owing c (owedRes c l) ∗ inputs x c ∗ any F c acM ∗ stepsFrom x c scR (across c) [] ∗ outPart x c l heads)

/-- From the wait for head `j`'s codes to the sending of its result. -/
def finishHead (d : Dev nD) (j : Fin 8) : Piece F := do
  awaitCodes j
  attendPeer d j
  sendResult d j

theorem finishHead_spec (j : Fin 8) (l : List (Fin 8)) (Kt : PUnit → sProp (𝕄 F)) :
    iprop(facts x K ∗ (owing c (owedRes c (j :: l)) ∗ inputs x c ∗ ownIn x c j ∗ stepsFrom x c scR (across c) [] ∗ outPart x c (j :: l) heads)
        ∗ attendNeeds F c j ∗ (attending x c l ∗ attendLeaves F c j -∗ Kt ⟨⟩))
      ⊢ wpc c (finishHead (F := F) c j) Kt := by
  unfold attendNeeds attending attendLeaves finishHead inputs awaitCodes sendResultNeeds
  simp only [wp_bind]
  iintro ⟨#HF, ⟨HO, ⟨Hq, Hk, Hv⟩, Ha, Hs, Ho⟩, ⟨⟨Hc, Hb⟩, Hx, Hd, H1, H2, H3, H4⟩, HK⟩
  iapply (wait_dma x K c (codesIn j) (slotK kvS j) (slotK kvR j) _ _ rfl (credit_kvR j) (owedRes c (j :: l)) (above_res c (j :: l)))
    $$ [HO Hq Hk Hv Ha Hs Ho Hc Hb Hx Hd H1 H2 H3 H4 HK]
  isplitr; · iexact HF
  isplitl [HO]; · iexact HO
  isplitl [Hc]; · iexact Hc
  isplitl [Hb]; · iexact Hb
  iintro ⟨HO, Hf, Hp⟩
  ihave Hp' := (show sitePay x c (codesIn j) ⊢ has c (slotK kvR j) (codesAt x (across c) j) from .rfl) $$ Hp
  iapply (attendPeer_spec x c j l heads) $$ [HO Hq Hk Hv Ha Hs Ho Hp' Hf Hx Hd H1 H2 H3 H4 HK]
  isplitl [Hq]; · iexact Hq
  isplitl [Hs]; · iexact Hs
  isplitl [Ha]; · iexact Ha
  isplitl [Ho]; · iexact Ho
  isplitl [Hp']; · iexact Hp'
  isplitl [Hx]; · iexact Hx
  iintro ⟨Hq, Hs, Ha, Ho, Hp', Hx⟩
  iapply (sendResult_spec x K c j l) $$ [HO Hq Hk Hv Ha Hs Ho Hp' Hf Hx Hd H1 H2 H3 H4 HK]
  isplitr; · iexact HF
  isplitl [HO]; · iexact HO
  isplitl [Hx]; · iexact Hx
  isplitl [Hd]; · iexact Hd
  isplitl [H1]; · iexact H1
  isplitl [H2]; · iexact H2
  isplitl [H3]; · iexact H3
  isplitl [H4]; · iexact H4
  iintro ⟨HO, Hc⟩
  iapply HK
  isplitl [HO Hq Hk Hv Ha Hs Ho]
  · isplitl [HO]; · iexact HO
    isplitl [Hq Hk Hv]
    · isplitl [Hq]; · iexact Hq
      isplitl [Hk] <;> iassumption
    isplitl [Ha]; · iexact Ha
    isplitl [Hs] <;> iassumption
  isplitl [Hf]; · iexact Hf
  isplitl [Hp']; · iexists _; iexact Hp'
  iexact Hc

theorem attend_spec (j : Fin 8) (l : List (Fin 8)) (Kt : PUnit → sProp (𝕄 F)) :
    iprop(facts x K ∗ attending x c (j :: l) ∗ attendNeeds F c j ∗ (attending x c l ∗ attendLeaves F c j -∗ Kt ⟨⟩))
      ⊢ wpc c (attend (F := F) c j) Kt := by
  rw [show attend (F := F) c j = (do attendOwn c j; finishHead c j) from rfl]
  simp only [wp_bind]
  iintro ⟨#HF, HR, HN, HK⟩
  ihave HR' := (show attending x c (j :: l) ⊢ iprop(owing c (owedRes c (j :: l)) ∗ inputs x c ∗ any F c acM ∗ stepsFrom x c scR (across c) [] ∗ outPart x c (j :: l) heads) from .rfl) $$ HR
  icases HR' with ⟨HO, Hi, Ha, Hs, Ho⟩
  iapply (attendOwn_spec x c j) $$ [HO Hi Ha Hs Ho HN HK]
  isplitl [Hi]; · iexact Hi
  isplitl [Ha]; · iexact Ha
  iintro ⟨Hi, Ha⟩
  iapply (finishHead_spec x K c j l) $$ [HO Hi Ha Hs Ho HN HK]
  isplitr; · iexact HF
  isplitl [HO Hi Ha Hs Ho]
  · isplitl [HO]; · iexact HO
    isplitl [Hi]; · iexact Hi
    isplitl [Ha]; · iexact Ha
    isplitl [Hs] <;> iassumption
  isplitl [HN]; · iexact HN
  iexact HK

theorem attendFirst_spec (Kt : PUnit → sProp (𝕄 F)) :
    iprop(facts x K ∗ (owing c (owedRes c heads) ∗ inputs x c ∗ any F c acM ∗ outPart x c heads heads) ∗ (credit F c stepsIn ∗ before F c stepsIn)
        ∗ attendNeeds F c 0 ∗ (attending x c [1, 2, 3, 4, 5, 6, 7] ∗ attendLeaves F c 0 ∗ after F c stepsIn -∗ Kt ⟨⟩))
      ⊢ wpc c (attendFirst (F := F) c) Kt := by
  rw [show attendFirst (F := F) c = (do attendOwn c 0; awaitSteps; finishHead c 0) from rfl]
  unfold awaitSteps
  simp only [wp_bind]
  iintro ⟨#HF, ⟨HO, Hi, Ha, Ho⟩, ⟨Hc, Hb⟩, HN, HK⟩
  iapply (attendOwn_spec x c 0) $$ [HO Hi Ha Hc Hb Ho HN HK]
  isplitl [Hi]; · iexact Hi
  isplitl [Ha]; · iexact Ha
  iintro ⟨Hi, Ha⟩
  iapply (wait_dma x K c stepsIn scS scR _ _ rfl rfl (owedRes c heads) (above_res c heads)) $$ [HO Hi Ha Hc Hb Ho HN HK]
  isplitr; · iexact HF
  isplitl [HO]; · iexact HO
  isplitl [Hc]; · iexact Hc
  isplitl [Hb]; · iexact Hb
  iintro ⟨HO, Hf, Hp⟩
  ihave Hs := (show sitePay x c stepsIn ⊢ stepsFrom x c scR (across c) [] from .rfl) $$ Hp
  iapply (finishHead_spec x K c 0 [1, 2, 3, 4, 5, 6, 7]) $$ [HO Hi Ha Hf Hs Ho HN HK]
  isplitr; · iexact HF
  isplitl [HO Hi Ha Hs Ho]
  · isplitl [HO]; · iexact HO
    isplitl [Hi]; · iexact Hi
    isplitl [Ha]; · iexact Ha
    isplitl [Hs]; · iexact Hs
    iexact Ho
  isplitl [HN]; · iexact HN
  iintro ⟨HR, HL⟩
  iapply HK
  isplitl [HR]; · iexact HR
  isplitl [HL] <;> iassumption

/-- All heads attended to. -/
theorem attendAll_spec (Kt : PUnit → sProp (𝕄 F)) :
    iprop(facts x K ∗ (owing c (owedRes c heads) ∗ inputs x c ∗ any F c acM ∗ outPart x c heads heads) ∗ (credit F c stepsIn ∗ before F c stepsIn)
        ∗ all8 (attendNeeds F c) ∗ (attending x c [] ∗ all8 (attendLeaves F c) ∗ after F c stepsIn -∗ Kt ⟨⟩))
      ⊢ wpc c (do attendFirst (F := F) c; inTurn (attend c) [1, 2, 3, 4, 5, 6, 7]) Kt := by
  rw [all8_eq, all8_eq]
  simp only [wp_bind]
  iintro ⟨#HF, HR, Hc, HN, HK⟩
  ihave HN' := (show each (attendNeeds F c) heads ⊢ iprop(attendNeeds F c 0 ∗ each (attendNeeds F c) [1, 2, 3, 4, 5, 6, 7]) from .rfl) $$ HN
  icases HN' with ⟨HN0, HN⟩
  iapply (attendFirst_spec x K c) $$ [HR Hc HN0 HN HK]
  isplitr; · iexact HF
  isplitl [HR]; · iexact HR
  isplitl [Hc]; · iexact Hc
  isplitl [HN0]; · iexact HN0
  iintro ⟨HR, HL0, Hf⟩
  iapply (inTurn_spec x K c (attend c) (attending x c) (attendNeeds F c) (attendLeaves F c) (attend_spec x K c) [1, 2, 3, 4, 5, 6, 7])
    $$ [HR HN HL0 Hf HK]
  isplitr; · iexact HF
  isplitl [HR]; · iexact HR
  isplitl [HN]; · iexact HN
  iintro ⟨HR, HL⟩
  iapply HK
  isplitl [HR]; · iexact HR
  isplitl [HL0 HL]
  · iapply (show iprop(attendLeaves F c 0 ∗ each (attendLeaves F c) [1, 2, 3, 4, 5, 6, 7]) ⊢ each (attendLeaves F c) heads from .rfl)
    isplitl [HL0] <;> iassumption
  iexact Hf

/-! ## The buffers of eight heads, whole and in parts -/

section Rows
variable {s : Shape} {e : EltTy} (M : Memref sig .tc .vmem s e) (r : Fin 8 → Rect s) (hr : ∀ j a, (r j).stride a = 1)
  (hd : ∀ j j', j ≠ j' → Disjoint (r j).set (r j').set) (hc : (Finset.univ : Finset (Fin 8)).biUnion (fun j => (r j).set) = Finset.univ)
include hd hc

theorem rows_out : any F c M ⊢ all8 fun j => any F c (M.slice (r j) (hr j)) := by
  iintro ⟨%w, H⟩
  ihave H' := (owns_rects (c : Thread nD τ) M fullShare r hr hd hc w) $$ H
  iapply (all8_mono (F := F) (A := fun j => has c (M.slice (r j) (hr j)) (fun i => w ((r j).emb i))) fun j => by iintro H; iexists _; iexact H)
  iexact H'

/-- Contents given on each row are contents of the whole. -/
theorem rows_glue (y : (j : Fin 8) → (r j).shape.Idx → Elt F e) : ∃ X : s.Idx → Elt F e, ∀ j, (fun i => X ((r j).emb i)) = y j := by
  have h : ∀ i : s.Idx, ∃ p : (j : Fin 8) × (r j).shape.Idx, (r p.1).emb p.2 = i := fun i => by
    obtain ⟨j, -, hj⟩ := Finset.mem_biUnion.mp (hc.symm ▸ Finset.mem_univ i)
    rw [← Rect.map_emb_univ, Finset.mem_map] at hj
    obtain ⟨z, -, hz⟩ := hj
    exact ⟨⟨j, z⟩, hz⟩
  choose p hp using h
  refine ⟨fun i => y (p i).1 (p i).2, fun j => funext fun z => ?_⟩
  have e₀ := hp ((r j).emb z)
  have hmem : ∀ (j : Fin 8) (z : (r j).shape.Idx), (r j).emb z ∈ (r j).set := fun j z => by
    rw [← Rect.map_emb_univ]; exact Finset.mem_map_of_mem _ (Finset.mem_univ z)
  have e₁ : p ((r j).emb z) = ⟨j, z⟩ := by
    generalize p ((r j).emb z) = q at e₀
    obtain ⟨j', z'⟩ := q
    by_cases e : j' = j
    · subst e; exact congrArg _ ((r j').emb.injective e₀)
    · exact absurd (e₀ ▸ hmem j' z') (fun h => Finset.disjoint_left.mp (hd j' j e) (hmem j' z') (e₀ ▸ hmem j z))
  show y (p ((r j).emb z)).1 (p ((r j).emb z)).2 = y j z
  rw [e₁]

theorem rows_in : (all8 fun j => any F c (M.slice (r j) (hr j))) ⊢ any F c M := by
  iintro H
  ihave H' := (bigSep_exists_pi Finset.univ fun (j : Fin 8) (w : (r j).shape.Idx → Elt F e) => has c (M.slice (r j) (hr j)) w) $$ H
  icases H' with ⟨%y, H⟩
  obtain ⟨X, hX⟩ := rows_glue r hd hc y
  iexists X
  rw [show y = fun j i => X ((r j).emb i) from funext fun j => (hX j).symm]
  iapply (owns_of_rects (c : Thread nD τ) M fullShare r hr hd hc X)
  iexact H

end Rows

theorem kvS_out : any F c kvS ⊢ all8 fun j => any F c (slotK kvS j) := rows_out c kvS rK (fun _ _ => rfl) rK_apart rK_cover
theorem kvR_out : any F c kvR ⊢ all8 fun j => any F c (slotK kvR j) := rows_out c kvR rK (fun _ _ => rfl) rK_apart rK_cover
theorem oxS_out : any F c oxS ⊢ all8 fun j => any F c (slotO oxS j) := rows_out c oxS rO (fun _ _ => rfl) rO_apart rO_cover
theorem oxR_out : any F c oxR ⊢ all8 fun j => any F c (slotO oxR j) := rows_out c oxR rO (fun _ _ => rfl) rO_apart rO_cover
theorem kvS_in : (all8 fun j => any F c (slotK kvS j)) ⊢ any F c kvS := rows_in c kvS rK (fun _ _ => rfl) rK_apart rK_cover
theorem kvR_in : (all8 fun j => any F c (slotK kvR j)) ⊢ any F c kvR := rows_in c kvR rK (fun _ _ => rfl) rK_apart rK_cover
theorem oxS_in : (all8 fun j => any F c (slotO oxS j)) ⊢ any F c oxS := rows_in c oxS rO (fun _ _ => rfl) rO_apart rO_cover
theorem oxR_in : (all8 fun j => any F c (slotO oxR j)) ⊢ any F c oxR := rows_in c oxR rO (fun _ _ => rfl) rO_apart rO_cover

/-! ## Something for each semaphore -/

abbrev allSites (Φ : Site → sProp (𝕄 F)) : sProp (𝕄 F) := bigSep Finset.univ Φ

theorem allSites_eq (Φ : Site → sProp (𝕄 F)) : allSites Φ
    = iprop(((all8 fun j => Φ (codesOut j)) ∗ (all8 fun j => Φ (codesIn j)) ∗ (all8 fun j => Φ (resOut j)) ∗ (all8 fun j => Φ (resIn j)))
        ∗ Φ stepsOut ∗ Φ stepsIn) := by
  unfold allSites
  rw [BI.bigSep_univ_sum, BI.bigSep_univ_prod, bigSep_univ_eq_bigSepL [0, 1, 2, 3] (by decide) (by decide),
    bigSep_univ_eq_bigSepL [0, 1] (by decide) (by decide)]
  rfl

/-- Which device a device pays for each semaphore: itself for what is sent, the receiver for what arrives. -/
def payTo (c : Dev nD) : Site → Dev nD
  | .inl (0, _) => c
  | .inl (1, _) => across c
  | .inl (2, _) => c
  | .inl (3, _) => beside c
  | .inr 0 => c
  | .inr 1 => across c

/-! ## The first part: up to the sending of the codes -/

def scratch (F : FTy → Type) [FloatOps F] [Named F] (c : Dev nD) : sProp (𝕄 F) :=
  iprop(any F c kvS ∗ any F c scS ∗ any F c kvR ∗ any F c scR ∗ any F c acM ∗ any F c oxS ∗ any F c oxR)

/-- What the exchange of codes and steps takes. -/
def openNeeds : sProp (𝕄 F) :=
  iprop((owing c (owedAll c) ∗ dutyTok ER (barCell (across c)) 0 false ∗ dutyTok ER (barCell (beside c)) 0 true
      ∗ atPos ER (barCell c) 0 ∅ 0 ∗ cred (tallyAt (barCell c) () 2))
    ∗ (acrossPay c ∗ besidePay c) ∗ (inputs x c ∗ any F c scS ∗ all8 fun j => any F c (slotK kvS j))
    ∗ (token F c stepsOut ∗ opened F c stepsOut ∗ token F (across c) stepsIn)
    ∗ (all8 fun j => token F c (codesOut j)) ∗ (all8 fun j => opened F c (codesOut j)) ∗ all8 fun j => token F (across c) (codesIn j))
/-- and leaves. -/
def openLeaves : sProp (𝕄 F) :=
  iprop(owing c (owedRes c heads) ∗ inputs x c ∗ atPos ER (barCell c) 1 ∅ 0 ∗ besidePay (beside c) ∗ credit F c stepsOut
    ∗ all8 fun j => credit F c (codesOut j))

theorem open_spec (Kt : PUnit → sProp (𝕄 F)) (rest : Piece F) :
    iprop(facts x K ∗ openNeeds x c ∗ (openLeaves x c -∗ wpc c rest Kt))
      ⊢ wpc c (do announce c; inTurn (quantise c) heads; assemble; sendSteps c; inTurn (sendCodes c) heads; rest) Kt := by
  unfold openNeeds openLeaves
  simp only [wp_bind]
  iintro ⟨#HF, ⟨⟨HO, Ht, Hu, Hat, Hcr⟩, ⟨HA, HB⟩, ⟨⟨Hq, Hk, Hv⟩, Hs, Hc⟩, ⟨H1, #H2, H3⟩, H4, #H5, H6⟩, HK⟩
  iapply (announce_spec x K c) $$ [HO Ht Hu Hat Hcr HA HB Hq Hk Hv Hs Hc H1 H3 H4 H6 HK]
  isplitr; · iexact HF
  isplitl [HO]; · iexact HO
  isplitl [Ht]; · iexact Ht
  isplitl [Hu]; · iexact Hu
  isplitl [HA]; · iexact HA
  isplitl [HB]; · iexact HB
  iintro HO
  iapply (inTurn_heads x K c (quantise c) (fun l => iprop(has c kM (x.k c) ∗ has c vM (x.v c) ∗ stepsFrom x c scS c l))
    (fun j => any F c (slotK kvS j)) (fun j => has c (slotK kvS j) (codesAt x c j))
    (fun j l Kt => by
      iintro ⟨-, HR, HA, HK⟩
      iapply (quantise_spec x c j l Kt)
      isplitl [HR]; · iexact HR
      isplitl [HA] <;> iassumption)) $$ [HO Hat Hcr Hq Hk Hv Hs Hc H1 H3 H4 H6 HK]
  isplitr; · iexact HF
  isplitl [Hk Hv Hs]
  · isplitl [Hk]; · iexact Hk
    isplitl [Hv]; · iexact Hv
    icases Hs with ⟨%w, Hs⟩
    unfold stepsFrom
    iexists w
    isplitr; · ipureintro; intro j hj; exact absurd (by revert j; decide) hj
    iexact Hs
  isplitl [Hc]; · iexact Hc
  iintro ⟨⟨Hk, Hv, Hs⟩, Hc⟩
  iapply (wait_bar x K c (owedSteps c) (above_steps c)) $$ [HO Hat Hcr Hq Hk Hv Hs Hc H1 H3 H4 H6 HK]
  isplitr; · iexact HF
  isplitl [HO]; · iexact HO
  isplitl [Hcr]; · iexact Hcr
  isplitl [Hat]; · iexact Hat
  iintro ⟨HO, Hat, HA, HB⟩
  ihave HA' := (show acrossPay (across c) ⊢ iprop((all8 fun j => any F (across c) (slotK kvR j)) ∗ any F (across c) scR
    ∗ (all8 fun j => opened F (across c) (codesIn j)) ∗ opened F (across c) stepsIn) from .rfl) $$ HA
  icases HA' with ⟨Hd, Hds, #H7, #H8⟩
  iapply (sendSteps_spec x K c) $$ [HO Hat Hq Hk Hv Hs Hc H1 H3 H4 H6 Hd Hds HB HK]
  isplitr; · iexact HF
  isplitl [HO]; · iexact HO
  isplitl [Hs]; · iexact Hs
  isplitl [Hds]; · iexact Hds
  isplitl [H1]; · iexact H1
  isplitr; · iexact H2
  isplitl [H3]; · iexact H3
  isplitr; · iexact H8
  iintro ⟨HO, Hcs⟩
  iapply (inTurn_heads x K c (sendCodes c) (fun l => owing c (owedCodes c l)) (sendCodesNeeds x c) (fun j => credit F c (codesOut j))
    (sendCodes_spec x K c)) $$ [HO Hat Hq Hk Hv Hc H4 H6 Hd HB Hcs HK]
  isplitr; · iexact HF
  isplitl [HO]; · iexact HO
  isplitl [Hc Hd H4 H6]
  · unfold sendCodesNeeds
    rw [all8_pair, all8_pair, all8_pair, all8_pair, all8_pair]
    isplitl [Hc]; · iexact Hc
    isplitl [Hd]; · iexact Hd
    isplitl [H4]; · iexact H4
    isplitr; · iexact H5
    isplitl [H6]; · iexact H6
    iexact H7
  iintro ⟨HO, Hcc⟩
  iapply HK
  isplitl [HO]; · iexact HO
  isplitl [Hq Hk Hv]
  · isplitl [Hq]; · iexact Hq
    isplitl [Hk] <;> iassumption
  isplitl [Hat]; · iexact Hat
  isplitl [HB]; · iexact HB
  isplitl [Hcs] <;> iassumption

/-! ## The last part: receiving and draining -/

def closeNeeds : sProp (𝕄 F) :=
  iprop((owing c 0 ∗ outPart x c [] heads) ∗ (all8 (receiveNeeds F c)) ∗ (credit F c stepsOut ∗ before F c stepsOut) ∗ all8 (drainNeeds F c))
def closeLeaves : sProp (𝕄 F) :=
  iprop((owing c 0 ∗ has c oM (outAt x c)) ∗ (all8 (receiveLeaves F c)) ∗ (after F c stepsOut ∗ any F c scS) ∗ all8 (drainLeaves F c))

theorem close_spec (Kt : PUnit → sProp (𝕄 F)) :
    iprop(facts x K ∗ closeNeeds x c ∗ (closeLeaves x c -∗ Kt ⟨⟩)) ⊢ wpc c (do inTurn (receive c) heads; drainSteps; inTurn drain heads) Kt := by
  unfold closeNeeds closeLeaves drainSteps
  simp only [wp_bind]
  iintro ⟨#HF, ⟨HR, Hr, ⟨Hc, Hb⟩, Hd⟩, HK⟩
  iapply (inTurn_heads x K c (receive c) (fun l => iprop(owing c 0 ∗ outPart x c [] l)) (receiveNeeds F c) (receiveLeaves F c)
    (receive_spec x K c)) $$ [HR Hr Hc Hb Hd HK]
  isplitr; · iexact HF
  isplitl [HR]; · iexact HR
  isplitl [Hr]; · iexact Hr
  iintro ⟨⟨HO, Ho⟩, Hr⟩
  iapply (wait_dma x K c stepsOut scR scS _ _ rfl rfl 0 (above_zero _)) $$ [HO Ho Hr Hc Hb Hd HK]
  isplitr; · iexact HF
  isplitl [HO]; · iexact HO
  isplitl [Hc]; · iexact Hc
  isplitl [Hb]; · iexact Hb
  iintro ⟨HO, Hf, Hp⟩
  iapply (inTurn_heads x K c drain (fun _ => owing c 0) (drainNeeds F c) (drainLeaves F c)
    (fun j l Kt => drain_spec x K c j Kt)) $$ [HO Ho Hr Hf Hp Hd HK]
  isplitr; · iexact HF
  isplitl [HO]; · iexact HO
  isplitl [Hd]; · iexact Hd
  iintro ⟨HO, Hd⟩
  iapply HK
  isplitl [HO Ho]
  · isplitl [HO]; · iexact HO
    ihave Ho' := (show outPart x c [] [] ⊢ iprop(∃ w : S16x512x64.Idx → Elt F .f32, ⌜(∀ j', j' ∉ ([] : List (Fin 8)) → (fun i => w ((rMine c j').emb i)) = mineAt x c j')
      ∧ ∀ j', j' ∉ ([] : List (Fin 8)) → (fun i => w ((rTheirs c j').emb i)) = theirsAt x c j'⌝ ∗ has c oM w) from .rfl) $$ Ho
    icases Ho' with ⟨%w, %hw, Ho⟩
    rw [← outAt_of x c w (fun j => hw.1 j List.not_mem_nil) (fun j => hw.2 j List.not_mem_nil)]
    iexact Ho
  isplitl [Hr]; · iexact Hr
  isplitl [Hf Hp]
  · isplitl [Hf]; · iexact Hf
    iapply (show sitePay x c stepsOut ⊢ any F c scS from .rfl); iexact Hp
  iexact Hd

/-! ## All of it -/

/-- What a device holds at the start. -/
def start : sProp (𝕄 F) :=
  iprop((owing c (owedAll c) ∗ dutyTok ER (barCell (across c)) 0 false ∗ dutyTok ER (barCell (beside c)) 0 true
      ∗ atPos ER (barCell c) 0 ∅ 0 ∗ cred (tallyAt (barCell c) () 2))
    ∗ (allSites fun k => opened F c k) ∗ (allSites fun k => before F c k) ∗ (allSites fun k => token F (payTo c k) k)
    ∗ ((all8 fun j => credit F c (codesIn j)) ∗ (all8 fun j => credit F c (resIn j)) ∗ credit F c stepsIn)
    ∗ inputs x c ∗ any F c oM ∗ scratch F c)

/-- What it holds at the end: the output, every semaphore's counter at zero, and nothing owed. -/
def finish : sProp (𝕄 F) :=
  iprop(owing c 0 ∗ (semVal (barCell c) 0 ∗ allSites fun k => semVal (cell c k) 0) ∗ inputs x c ∗ has c oM (outAt x c) ∗ scratch F c)

theorem close_all : iprop(facts x K ∗ atPos ER (barCell c) 1 ∅ 0 ∗ allSites fun k => after F c k)
    ⊢ (|={Set.univ}=> (semVal (barCell c) 0 ∗ allSites fun k => semVal (cell c k) 0) : sProp (𝕄 F)) := by
  have hs : iprop(facts x K ∗ allSites fun k => after F c k) ⊢ (|={Set.univ}=> (allSites fun k => semVal (cell c k) 0) : sProp (𝕄 F)) := by
    refine (show _ ⊢ (allSites fun k => iprop(|={Set.univ}=> semVal (cell c k) 0) : sProp (𝕄 F)) from ?_).trans (bigSep_fupd _ _)
    have hp : iprop(facts x K ∗ allSites fun k => after F c k) ⊢ (allSites fun k => iprop(facts x K ∗ after F c k) : sProp (𝕄 F)) := by
      rw [show (allSites fun k => iprop(facts x K ∗ after F c k)) = iprop((allSites fun _ => facts x K) ∗ allSites fun k => after F c k) from bigSep_sep' _ _ _]
      iintro ⟨#HF, H⟩
      isplitr
      · iapply (bigSep_of_persistent (R := facts x K) Finset.univ); iexact HF
      iexact H
    exact hp.trans (BI.bigSep_mono fun k _ => close_site x K c k)
  iintro ⟨#HF, Hb, Hs⟩
  imod (close_bar x K c) $$ [Hb] with Hb
  · isplitr; · iexact HF
    iexact Hb
  imod hs $$ [Hs] with Hs
  · isplitr; · iexact HF
    iexact Hs
  imodintro
  isplitl [Hb] <;> iassumption

theorem kernelOn_spec (Kt : PUnit → sProp (𝕄 F)) :
    iprop(facts x K ∗ start x c ∗ (finish x c -∗ Kt ⟨⟩)) ⊢ wpc c (kernelOn (F := F) c) Kt := by
  rw [show kernelOn (F := F) c = (do
      announce c; inTurn (quantise c) heads; assemble; sendSteps c; inTurn (sendCodes c) heads
      (do
        (do attendFirst c; inTurn (attend c) [1, 2, 3, 4, 5, 6, 7])
        (do inTurn (receive c) heads; drainSteps; inTurn drain heads))) from rfl]
  refine BIBase.Entails.trans ?_ (open_spec x K c Kt _)
  unfold start scratch
  rw [allSites_eq, allSites_eq, allSites_eq]
  iintro ⟨#HF, ⟨⟨HO, Ht, Hu, Hat, Hcr⟩, ⟨⟨#Ho0, #Ho1, #Ho2, #Ho3⟩, #Ho4, #Ho5⟩, ⟨⟨Hb0, Hb1, Hb2, Hb3⟩, Hb4, Hb5⟩, ⟨⟨Ht0, Ht1, Ht2, Ht3⟩, Ht4, Ht5⟩,
    ⟨Hc1, Hc3, Hc5⟩, Hi, Hom, ⟨HkvS, HscS, HkvR, HscR, Hac, HoxS, HoxR⟩⟩, HK⟩
  ihave HkvS := (kvS_out c) $$ HkvS
  ihave HkvR := (kvR_out c) $$ HkvR
  ihave HoxS := (oxS_out c) $$ HoxS
  ihave HoxR := (oxR_out c) $$ HoxR
  isplitr; · iexact HF
  isplitl [HO Ht Hu Hat Hcr HkvS HscS HkvR HscR HoxR Hi Ht0 Ht1 Ht4 Ht5]
  · unfold openNeeds acrossPay besidePay
    isplitl [HO Ht Hu Hat Hcr]
    · isplitl [HO]; · iexact HO
      isplitl [Ht]; · iexact Ht
      isplitl [Hu]; · iexact Hu
      isplitl [Hat] <;> iassumption
    isplitl [HkvR HscR HoxR]
    · isplitl [HkvR HscR]
      · isplitl [HkvR]; · iexact HkvR
        isplitl [HscR]; · iexact HscR
        isplitr; · iexact Ho1
        iexact Ho5
      isplitl [HoxR]; · iexact HoxR
      iexact Ho3
    isplitl [Hi HscS HkvS]
    · isplitl [Hi]; · iexact Hi
      isplitl [HscS] <;> iassumption
    isplitl [Ht4 Ht5]
    · isplitl [Ht4]; · iexact Ht4
      isplitr; · iexact Ho4
      iexact Ht5
    isplitl [Ht0]; · iexact Ht0
    isplitr; · iexact Ho0
    iexact Ht1
  unfold openLeaves besidePay
  iintro ⟨HO, Hi, Hat, ⟨HoxR, #Hr3⟩, Hc4, Hc0⟩
  rw [show ∀ (p q : Piece F), wpc c (do p; q) Kt = wpc c p (fun _ => wpc c q Kt) from fun p q => by simp only [wp_bind]]
  iapply (attendAll_spec x K c) $$ [HO Hi Hac Hom Hc5 Hb5 Hc1 Hb1 HoxS HoxR Ht2 Ht3 Hat Hc4 Hc0 Hb0 Hb2 Hb3 Hb4 Hc3 HK]
  isplitr; · iexact HF
  isplitl [HO Hi Hac Hom]
  · isplitl [HO]; · iexact HO
    isplitl [Hi]; · iexact Hi
    isplitl [Hac]; · iexact Hac
    icases Hom with ⟨%w, Hom⟩
    unfold outPart
    iexists w
    isplitr; · ipureintro; exact ⟨fun j hj => absurd (by revert j; decide) hj, fun j hj => absurd (by revert j; decide) hj⟩
    iexact Hom
  isplitl [Hc5 Hb5]; · isplitl [Hc5] <;> iassumption
  isplitl [Hc1 Hb1 HoxS HoxR Ht2 Ht3]
  · unfold attendNeeds sendResultNeeds
    rw [all8_pair, all8_pair, all8_pair, all8_pair, all8_pair, all8_pair, all8_pair]
    isplitl [Hc1 Hb1]; · isplitl [Hc1] <;> iassumption
    isplitl [HoxS]; · iexact HoxS
    isplitl [HoxR]; · iexact HoxR
    isplitl [Ht2]; · iexact Ht2
    isplitr; · iexact Ho2
    isplitl [Ht3]; · iexact Ht3
    iexact Hr3
  unfold attending attendLeaves
  rw [all8_pair, all8_pair]
  iintro ⟨⟨HO, Hi, Hac, HscR, Hom⟩, ⟨Hf1, HkvR, Hc2⟩, Hf5⟩
  iapply (wp_fupd _ _ _ _ _)
  iapply (close_spec x K c) $$ [HO Hi Hac Hom Hc3 Hb3 Hc4 Hb4 Hc0 Hb0 Hc2 Hb2 Hat Hf1 Hf5 HkvR HscR HK]
  isplitr; · iexact HF
  isplitl [HO Hom Hc3 Hb3 Hc4 Hb4 Hc0 Hb0 Hc2 Hb2]
  · unfold closeNeeds receiveNeeds drainNeeds
    rw [all8_pair, all8_pair, all8_pair, all8_pair]
    isplitl [HO Hom]
    · isplitl [HO]; · iapply (show owing c (owedRes c []) ⊢ (owing c 0 : sProp (𝕄 F)) from .rfl); iexact HO
      iexact Hom
    isplitl [Hc3 Hb3]; · isplitl [Hc3] <;> iassumption
    isplitl [Hc4 Hb4]; · isplitl [Hc4] <;> iassumption
    isplitl [Hc0 Hb0]; · isplitl [Hc0] <;> iassumption
    isplitl [Hc2] <;> iassumption
  unfold closeLeaves receiveLeaves drainLeaves
  rw [all8_pair, all8_pair, all8_pair, all8_pair]
  iintro ⟨⟨HO, Hom⟩, ⟨Hf3, HoxR⟩, ⟨Hf4, HscS⟩, ⟨Hf0, HkvS⟩, Hf2, HoxS⟩
  imod (close_all x K c) $$ [Hat Hf0 Hf1 Hf2 Hf3 Hf4 Hf5] with Hz
  · isplitr; · iexact HF
    isplitl [Hat]; · iexact Hat
    rw [allSites_eq]
    isplitl [Hf0 Hf1 Hf2 Hf3]
    · isplitl [Hf0]; · iexact Hf0
      isplitl [Hf1]; · iexact Hf1
      isplitl [Hf2] <;> iassumption
    isplitl [Hf4] <;> iassumption
  imodintro
  iapply HK
  unfold finish scratch
  isplitl [HO]; · iexact HO
  isplitl [Hz]; · iexact Hz
  isplitl [Hi]; · iexact Hi
  isplitl [Hom]; · iexact Hom
  isplitl [HkvS]; · iapply (kvS_in c); iexact HkvS
  isplitl [HscS]; · iexact HscS
  isplitl [HkvR]; · iapply (kvR_in c); iexact HkvR
  isplitl [HscR]
  · unfold stepsFrom
    icases HscR with ⟨%w, -, H⟩
    iexists w; iexact H
  isplitl [Hac]; · iexact Hac
  isplitl [HoxS]; · iapply (oxS_in c); iexact HoxS
  iapply (oxR_in c); iexact HoxR

end Cert.KernelIdeal.Attn

end
-- ==== Proof.Region.lean ====
module

public import proofs.«01_k».proof.Proof.Whole
public import proofs.«01_k».proof.Proof.Gen.KernelIdeal.Frame
public import Idealize.ShloMosaic.Lib.Pipeline.RegionTalk
public import Idealize.ShloMosaic.Lib.Pipeline.ValueKit

@[expose] public section

/-! # The pallas_call between the host lines

The call fetches queries, keys and values into its staging buffers, runs the kernel once and writes the output back. -/

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F] [Named F] (m : (ℓ : Loc nD τ sig) → Buf (Elt F) ℓ)

/-! ## The contents -/

/-- What the kernels of all devices find. -/
def ins : Inputs F where
  q c := V m c main_v2
  k c := V m c main_v5
  v c := V m c main_v8

/-- A device's buffers after the call: the output in its place, all else as before. -/
def V1 (c : Dev nD) : Valuation τ sig (Elt F) :=
  Function.update (V0 m c) (Proc.devRef .tc main_v9) (outAt (ins m) c)

theorem V1_out (c : Dev nD) : V1 m c (Proc.devRef .tc main_v9) = outAt (ins m) c := Function.update_self _ _ _
theorem V1_ne (c : Dev nD) {b : DevRef τ sig} (h : b ≠ Proc.devRef .tc main_v9) : V1 m c b = V0 m c b := Function.update_of_ne h _ _

/-! ## The kernel's state around its one point -/

/-- What a device brings besides its buffers; `slots` is its part in the cells of the transfers. -/
def brings (slots : Site → sProp (𝕄 F)) (c : Dev nD) : sProp (𝕄 F) :=
  iprop(∃ K, facts (ins m) K ∗ (dutyTok ER (barCell (across c)) 0 false ∗ dutyTok ER (barCell (beside c)) 0 true
      ∗ atPos ER (barCell c) 0 ∅ 0 ∗ cred (tallyAt (barCell c) () 2))
    ∗ allSites slots ∗ (allSites fun k => token F (payTo c k) k)
    ∗ ((all8 fun j => credit F c (codesIn j)) ∗ (all8 fun j => credit F c (resIn j)) ∗ credit F c stepsIn))

/-- Before the cells of the transfers are opened, and after. -/
abbrev Tk (c : Dev nD) : sProp (𝕄 F) := brings m (fun k => openTok ER (cell c k)) c
abbrev Xk (c : Dev nD) : sProp (𝕄 F) := brings m (fun k => iprop(before F c k ∗ opened F c k)) c
abbrev Yk (c : Dev nD) : sProp (𝕄 F) := semVal (barCell c) 0

def stateBefore (c : Dev nD) : sProp (𝕄 F) := iprop(Xk m c ∗ scratch F c ∗ ∃ r, prngReg c r)
def stateAfter (c : Dev nD) : sProp (𝕄 F) :=
  iprop(Yk (F := F) c ∗ (allSites fun k => semVal (cell c k) 0) ∗ scratch F c ∗ ∃ r, prngReg c r)

/-- What each staging buffer holds after the kernel. -/
def leaves (c : Dev nD) : (w : Fin cfg0.W) → (cfg0.win w).block.Idx → Elt F (cfg0.win w).elt
  | 0 => (ins m).q c
  | 1 => (ins m).k c
  | 2 => (ins m).v c
  | 3 => outAt (ins m) c
  | ⟨_ + 4, h⟩ => absurd h (Nat.not_lt.2 (Nat.le_add_left _ _))

def dat (c : Dev nD) : Dat τ (Elt F) Unit ℕ UU ℕ cfg0 c where
  A w := V m c (Pipeline.arrRef spec0 w)
  after w _ := leaves m c w
  Φ t := if t.val = 0 then stateBefore m c else stateAfter c
  q _ := fullShare
  owed t := if t.val = 0 then owedAll c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

theorem Φ_at (c : Dev nD) (t : Fin (cfg0.N + 1)) : (dat m c).Φ t = if t.val = 0 then stateBefore m c else stateAfter c := rfl
theorem owed_at (c : Dev nD) (t : Fin (cfg0.N + 1)) : (dat m c).owed t = if t.val = 0 then owedAll c else 0 := rfl
theorem Φ_first (c : Dev nD) : (dat m c).Φ t0_0.castSucc = stateBefore m c := by rw [Φ_at]; exact if_pos rfl
theorem Φ_next (c : Dev nD) : (dat m c).Φ t0_0.succ = stateAfter c := by rw [Φ_at]; exact if_neg (Nat.succ_ne_zero _)
theorem owed_first (c : Dev nD) : (dat m c).owed t0_0.castSucc = owedAll c := by rw [owed_at]; exact if_pos rfl
theorem owed_next (c : Dev nD) : (dat m c).owed t0_0.succ = 0 := by rw [owed_at]; exact if_neg (Nat.succ_ne_zero _)

theorem owed_in (t : Fin (cfg0.N + 1)) (c : Dev nD) (O : CellTallies nD τ sig Unit) (h : (dat m c).owed t = O) :
    owing c O ⊢ ((dat m c).owesAt () t : sProp (𝕄 F)) := by
  unfold owing Dat.owesAt Pipeline.owesWithin Dat.bound
  rw [h]
  iintro ⟨%W, HO⟩
  iexists W
  isplitr
  · ipureintro; exact fun _ _ => Or.inl trivial
  iexact HO
theorem owed_out (t : Fin (cfg0.N + 1)) (c : Dev nD) (O : CellTallies nD τ sig Unit) (h : (dat m c).owed t = O) :
    ((dat m c).owesAt () t : sProp (𝕄 F)) ⊢ owing c O := by
  unfold owing Dat.owesAt Pipeline.owesWithin
  rw [h]
  iintro ⟨%W, -, HO⟩
  iexists W; iexact HO

/-! ## What the kernel finds in its staging buffers -/

theorem index_q : ∀ a, win0_0.index t0_0 a = 0 := by decide
theorem index_k : ∀ a, win0_1.index t0_0 a = 0 := by decide
theorem index_v : ∀ a, win0_2.index t0_0 a = 0 := by decide
theorem index_o : ∀ a, win0_3.index t0_0 a = 0 := by decide

theorem block_q (c : Dev nD) (t : Fin cfg0.N) : iblk m c 0 t = (ins m).q c := by
  obtain rfl := fin_N0 t
  funext i
  show V m c main_v2 (((cfg0.win 0).blk t0_0).view.emb i) = V m c main_v2 i
  refine congrArg _ (funext fun a => Fin.ext ?_)
  blk_simp
  fin_cases a <;> exact (congrArg (· * _ + _) (index_q _)).trans (by rw [Nat.zero_mul, Nat.zero_add])
theorem block_k (c : Dev nD) (t : Fin cfg0.N) : iblk m c 1 t = (ins m).k c := by
  obtain rfl := fin_N0 t
  funext i
  show V m c main_v5 (((cfg0.win 1).blk t0_0).view.emb i) = V m c main_v5 i
  refine congrArg _ (funext fun a => Fin.ext ?_)
  blk_simp
  fin_cases a <;> exact (congrArg (· * _ + _) (index_k _)).trans (by rw [Nat.zero_mul, Nat.zero_add])
theorem block_v (c : Dev nD) (t : Fin cfg0.N) : iblk m c 2 t = (ins m).v c := by
  obtain rfl := fin_N0 t
  funext i
  show V m c main_v8 (((cfg0.win 2).blk t0_0).view.emb i) = V m c main_v8 i
  refine congrArg _ (funext fun a => Fin.ext ?_)
  blk_simp
  fin_cases a <;> exact (congrArg (· * _ + _) (index_v _)).trans (by rw [Nat.zero_mul, Nat.zero_add])

/-- Each input's staging buffer holds its array when the kernel starts. -/
theorem finds_q (c : Dev nD) (t : Fin cfg0.N) (d) : (dat m c).before 0 t d = (ins m).q c :=
  ((dat m c).before_in_eq_fetched 0 rfl (fun _ => rfl) (fun _ _ _ => rfl) (fun t => (block_q m c t).symm) t d).trans (block_q m c t)
theorem finds_k (c : Dev nD) (t : Fin cfg0.N) (d) : (dat m c).before 1 t d = (ins m).k c :=
  ((dat m c).before_in_eq_fetched 1 rfl (fun _ => rfl) (fun _ _ _ => rfl) (fun t => (block_k m c t).symm) t d).trans (block_k m c t)
theorem finds_v (c : Dev nD) (t : Fin cfg0.N) (d) : (dat m c).before 2 t d = (ins m).v c :=
  ((dat m c).before_in_eq_fetched 2 rfl (fun _ => rfl) (fun _ _ _ => rfl) (fun t => (block_v m c t).symm) t d).trans (block_v m c t)

/-- The output array after the call. -/
theorem out_after (c : Dev nD) : (dat m c).arrAt 3 cfg0.N = outAt (ins m) c := by
  refine (dat m c).arrAt_eq_of_after_last 3 t0_0 (by decide +kernel) _ fun j => ?_
  show outAt (ins m) c _ = outAt (ins m) c _
  rfl
/-! ## The kernel run at its one point -/

set_option maxRecDepth 65536 in
/-- What the pipeline calls is the kernel. -/
theorem called : (defs₀ (F := F) .tc cfg0.body (cfg0.bodyArgs t0_0 (cfg0.slots t0_0)) : Piece F) = bodyAt0 t0_0 := rfl

/-- The kernel from the state before its point to the state after it. -/
theorem kernel_run (c : Dev nD) (Kt : PUnit → sProp (𝕄 F)) :
    iprop(stateBefore m c ∗ owing c (owedAll c) ∗ inputs (ins m) c ∗ any F c oM
        ∗ (stateAfter c ∗ owing c 0 ∗ inputs (ins m) c ∗ has c oM (outAt (ins m) c) -∗ Kt ⟨⟩))
      ⊢ wpc c (bodyAt0 (F := F) t0_0) Kt := by
  rw [body_eq, show wpc c (do let d ← (Prog.lift .deviceId : Prog (TpuEff nD τ sig (Elt F) Λ₀ .tc) (Dev nD)); kernelOn (F := F) d) Kt = wpc c (kernelOn (F := F) c) Kt from by
    unfold wpc; simp only [Prog.lift, Prog.bind_op, Prog.bind_ret, wp_deviceId]]
  unfold stateBefore Xk brings
  iintro ⟨⟨⟨%K, #HF, Hb, Hs, Ht, Hc⟩, Hscr, Hp⟩, HO, Hin, Ho, Hk⟩
  iapply (kernelOn_spec (ins m) K c Kt)
  isplitr; · iexact HF
  ihave Hs' := (Entails.of_eq (bigSep_sep' Finset.univ (fun k : Site => before F c k) (fun k => opened F c k))) $$ Hs
  icases Hs' with ⟨Hs1, Hs2⟩
  icases Hb with ⟨Hb1, Hb2, Hb3, Hb4⟩
  isplitl [HO Hb1 Hb2 Hb3 Hb4 Hs1 Hs2 Ht Hc Hin Ho Hscr]
  · unfold start
    isplitl [HO Hb1 Hb2 Hb3 Hb4]
    · isplitl [HO]; · iexact HO
      isplitl [Hb1]; · iexact Hb1
      isplitl [Hb2]; · iexact Hb2
      isplitl [Hb3] <;> iassumption
    isplitl [Hs2]; · iexact Hs2
    isplitl [Hs1]; · iexact Hs1
    isplitl [Ht]; · iexact Ht
    isplitl [Hc]; · iexact Hc
    isplitl [Hin]; · iexact Hin
    isplitl [Ho] <;> iassumption
  unfold finish
  iintro ⟨HO, ⟨Hb, Hs⟩, Hin, Ho, Hscr⟩
  iapply Hk
  unfold stateAfter
  isplitl [Hb Hs Hscr Hp]
  · isplitl [Hb]; · iexact Hb
    isplitl [Hs]; · iexact Hs
    isplitl [Hscr] <;> iassumption
  isplitl [HO]; · iexact HO
  isplitl [Hin] <;> iassumption

set_option maxRecDepth 65536 in
theorem body_run (c : Dev nD) : BodyObligation (dat m c) (defs₀ (F := F)) 𝒱₀ () Set.univ := fun t => by
  obtain rfl := fin_N0 t
  rw [Φ_first, Φ_next, bigSep_W0, bigSep_W0, called]
  iintro ⟨HΦ, HO, ⟨%d0, Hq⟩, ⟨%d1, Hk⟩, ⟨%d2, Hv⟩, ⟨%d3, Ho⟩⟩
  rw [finds_q m c t0_0 d0, finds_k m c t0_0 d1, finds_v m c t0_0 d2]
  iapply (kernel_run m c _)
  isplitl [HΦ]; · iexact HΦ
  isplitl [HO]; · iapply (owed_out m _ c _ (owed_first m c)); iexact HO
  isplitl [Hq Hk Hv]
  · isplitl [Hq]; · iexact Hq
    isplitl [Hk]; · iexact Hk
    iexact Hv
  isplitl [Ho]
  · iapply (show owns (c : Thread nD τ) ((cfg0.win 3).stage (cfg0.slots t0_0 3)) fullShare ((dat m c).before 3 t0_0 d3) ⊢ any F c oM from by
      iintro H; iexists ((dat m c).before 3 t0_0 d3); iexact H)
    iexact Ho
  iintro ⟨HΦ, HO, ⟨Hq, Hk, Hv⟩, Ho⟩
  isplitl [HΦ]; · iexact HΦ
  isplitl [HO]; · iapply (owed_in m _ c _ (owed_next m c)); iexact HO
  isplitl [Hq]; · iexact Hq
  isplitl [Hk]; · iexact Hk
  isplitl [Hv]; · iexact Hv
  iexact Ho

/-! ## The call as a segment of the program -/

theorem held_none (c : Dev nD) (W : Valuation τ sig (Elt F)) : (StableHlo.held (c.tc : Thread nD τ) ∅ W : sProp (𝕄 F)) = iprop(emp) := by
  unfold StableHlo.held; exact BI.bigSep_empty

/-- A whole buffer with some contents. -/
theorem any_whole (c : Dev nD) (b : Ref sig .tc) : iprop(∃ w : b.ty.Contents (Elt F), owns (c : Thread nD τ) (Memref.whole b) fullShare w)
    = (iprop(∃ f : Buf (Elt F) ((c : Thread nD τ).loc b), ((c : Thread nD τ).loc b) ↦{fullShare} f) : sProp (𝕄 F)) := by
  simp only [owns_whole]

/-- The scoped buffers besides the staging are the scratch buffers. -/
theorem scratch_eq (c : Dev nD) : (Pipeline.scopedRest (Ix := Unit) (Name := ℕ) (U := UU) (Lvl := ℕ) (Val := Elt F) spec0 c : sProp (𝕄 F)) = scratch F c := by
  rw [scopedRest0_eq]
  unfold scratch
  rw [show any F c kvS = _ from any_whole c cc0_scratch0, show any F c scS = _ from any_whole c cc0_scratch1,
    show any F c kvR = _ from any_whole c cc0_scratch2, show any F c scR = _ from any_whole c cc0_scratch3,
    show any F c acM = _ from any_whole c cc0_scratch4, show any F c oxS = _ from any_whole c cc0_scratch5,
    show any F c oxR = _ from any_whole c cc0_scratch6]

/-- Opening the cells of the transfers. -/
theorem hopen (c : Dev nD) : iprop(Tk m c ∗ Pipeline.ownSems0 siteSem c ∗ levAts L lv) ⊢ (|={Set.univ}=> Xk m c : sProp (𝕄 F)) := by
  unfold Tk Xk brings
  iintro ⟨⟨%K, #HF, Hb, Hs, Ht, Hc⟩, Hz, -⟩
  have hone (k : Site) : iprop(facts (ins m) K ∗ (openTok ER (cell c k) ∗ semVal (cell c k) 0)) ⊢ (|={Set.univ}=> (before F c k ∗ opened F c k) : sProp (𝕄 F)) := by
    iintro ⟨#HF, Ho, Hz⟩
    ihave #HI := (facts_site (ins m) K c k) $$ HF
    imod (Rounds.cell_open ER (sched (ins m)) (g := cell c k) (Set.mem_univ (K (cell c k)))) $$ [Ho Hz] with ⟨Hat, #Hr⟩
    · isplitr; · iexact HI
      isplitl [Ho] <;> iassumption
    imodintro
    isplitl [Hat]; · iexact Hat
    iexact Hr
  have hall : iprop(facts (ins m) K ∗ (allSites fun k => openTok ER (cell c k)) ∗ (allSites fun k => semVal (cell c k) 0))
      ⊢ (|={Set.univ}=> (allSites fun k => iprop(before F c k ∗ opened F c k)) : sProp (𝕄 F)) := by
    refine (show _ ⊢ (allSites fun k => iprop(facts (ins m) K ∗ (openTok ER (cell c k) ∗ semVal (cell c k) 0)) : sProp (𝕄 F)) from ?_).trans
      ((BI.bigSep_mono fun k _ => hone k).trans (bigSep_fupd _ _))
    unfold allSites
    rw [bigSep_sep', bigSep_sep']
    iintro ⟨#HF, Ho, Hz⟩
    isplitr
    · iapply (bigSep_of_persistent (R := facts (ins m) K) Finset.univ); iexact HF
    isplitl [Ho] <;> iassumption
  imod hall $$ [Hs Hz] with Hs
  · isplitr; · iexact HF
    isplitl [Hs]; · iexact Hs
    iapply (show Pipeline.ownSems0 siteSem c ⊢ (allSites fun k => semVal (cell c k) 0 : sProp (𝕄 F)) from .rfl); iexact Hz
  imodintro
  iexists K
  isplitr; · iexact HF
  isplitl [Hb]; · iexact Hb
  isplitl [Hs]; · iexact Hs
  isplitl [Ht] <;> iassumption

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r) ∗ StableHlo.held (c.tc : Thread nD τ) ∅ (V0 m c) ∗ Xk m c)
    ⊢ (pdats m 0 c).Φ 0 := by
  rw [show (pdats m 0 c).Φ 0 = stateBefore m c from rfl, held_none, show (Pipeline.scopedRest (Pipeline.pin (pcfgs (F := F)) adm 0).spec c : sProp (𝕄 F)) = scratch F c from scratch_eq c]
  unfold stateBefore
  iintro ⟨Hs, Hp, -, HX⟩
  isplitl [HX]; · iexact HX
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V1 m c) ∗ Pipeline.ownSems0 siteSem c ∗ Yk c) := by
  rw [show (pdats m 0 c).Φ (Fin.last _) = stateAfter c from Φ_next m c, held_none, show (Pipeline.scopedRest (Pipeline.pin (pcfgs (F := F)) adm 0).spec c : sProp (𝕄 F)) = scratch F c from scratch_eq c]
  unfold stateAfter
  iintro ⟨HY, Hz, Hs, Hp⟩
  isplitl [Hs]; · iexact Hs
  isplitl [Hp]; · iexact Hp
  isplitr; · iempintro
  isplitl [Hz]
  · iapply (show (allSites fun k => semVal (cell c k) 0 : sProp (𝕄 F)) ⊢ Pipeline.ownSems0 siteSem c from .rfl); iexact Hz
  iexact HY

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = if t.val = 0 then owedAll c else 0 from rfl] at h
  split at h
  · exact above_all c g i h
  · exact absurd h (Nat.lt_irrefl 0)

theorem siteSem_ne_staging (w : Fin 4) (s : Fin (spec0 w).nbuf) (k : Site) : siteSem k ≠ .dma ((spec0 w).sem s) :=
  siteSem_own.disj k w s

/-- The staging cells are below everything owed. -/
theorem staging_lv (c : Dev nD) (w : Fin 4) (s : Fin (spec0 w).nbuf) : lv ((c : Thread nD τ), .dma ((spec0 w).sem s)) () ≤ 0 := by
  unfold lv
  rw [if_neg (by intro h; cases h)]
  rcases h : siteOf (.dma ((spec0 w).sem s)) with _ | k
  · exact Nat.le_refl 0
  · exact absurd (Function.partialInv_of_injective siteSem_inj k _ |>.mp h) (siteSem_ne_staging w s k)

/-- The buffers that the call does not touch. -/
abbrev others : Finset (DevRef τ sig) := Pipeline.ucRefs τ sig \ Pipeline.arrRefs (τ := τ) spec0

theorem out_arr : Proc.devRef .tc main_v9 ∈ Pipeline.arrRefs (τ := τ) spec0 := by
  unfold Pipeline.arrRefs
  exact Finset.mem_map_of_mem _ (Finset.mem_image.mpr ⟨3, Finset.mem_univ _, rfl⟩)

theorem arrays_after (c : Dev nD) (w : Fin 4) :
    (pdats m 0 c).arrAt w (Pipeline.pin (pcfgs (F := F)) adm 0).N = V1 m c (Proc.devRef .tc (Pipeline.arrRef spec0 w)) := by
  match w with
  | 0 => exact ((dat m c).arrAt_in 0 rfl _).trans (V1_ne m c (b := Proc.devRef .tc main_v2) (by decide)).symm
  | 1 => exact ((dat m c).arrAt_in 1 rfl _).trans (V1_ne m c (b := Proc.devRef .tc main_v5) (by decide)).symm
  | 2 => exact ((dat m c).arrAt_in 2 rfl _).trans (V1_ne m c (b := Proc.devRef .tc main_v8) (by decide)).symm
  | 3 => exact (out_after m c).trans (V1_out m c).symm

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 siteSem siteSem_own
    ∅ others (Finset.empty_subset _) kitP rfl (fun c => (body_run m c).loose)
    (fun _ => 0) owedAll (fun c => (zero_add _).symm) (fun c => owed_next m c) (fun _ => rfl)
    (fun c w => by unfold Dat.share; split <;> rfl)
    (V0 m) (V1 m) (fun c b hb => V1_ne m c (fun h => (Finset.mem_sdiff.mp (Finset.mem_sdiff.mp hb).1).2 (h ▸ out_arr)))
    (Tk m) Yk (Xk m) Yk (hopen m) (hin m) (hout m)
    (fun c => by iintro H; imodintro; iexact H)
    (fun _ => 0)
    ⟨fun c w s => by rw [L_tc]; exact Finset.mem_singleton_self _, fun c w s => staging_lv c w s, fun c t g i h => cutD m c t g i h⟩
    (fun _ => iprop(emp))
    (fun c w => rfl)
    (arrays_after m)

end Cert.KernelIdeal.Attn

end
-- ==== Proof.Launch.lean ====
module

public import proofs.«01_k».proof.Proof.Region
public import Idealize.ShloMosaic.Harness.Basic

@[expose] public section

/-! # The launch of the four devices

What the machine deals out at the start becomes what each device brings to its call. -/

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal Cert.KernelIdeal.Gen

variable {F : FTy → Type} [FloatOps F] [Named F] (m : (ℓ : Loc nD τ sig) → Buf (Elt F) ℓ) (ρ : Dev nD → PrngReg)

/-! ## Credits -/

theorem creds_res (c : Dev nD) (l : List (Fin 8)) :
    (Pipeline.launchCred (fun d => owedRes d l) c : sProp (𝕄 F)) ⊢ each (fun j => credit F c (resIn j)) l := by
  induction l with
  | nil => exact Entails.of_eq (Pipeline.launchCred_zero c)
  | cons j l ih =>
    refine (Entails.of_eq (Pipeline.launchCred_add (fun d => owedRes d l) (fun d => tallyAt (cell (beside d) (resIn j)) () NO) c)).trans ?_
    iintro ⟨Hl, Hj⟩
    unfold each
    isplitl [Hj]
    · iapply (Pipeline.launchCred_tallyAt (siteSem (resIn j)) beside beside beside_beside beside_beside () NO c); iexact Hj
    iapply ih; iexact Hl

theorem creds_codes (c : Dev nD) (l : List (Fin 8)) :
    (Pipeline.launchCred (fun d => owedCodes d l) c : sProp (𝕄 F))
      ⊢ iprop(each (fun j => credit F c (codesIn j)) l ∗ each (fun j => credit F c (resIn j)) heads) := by
  induction l with
  | nil =>
    iintro H
    isplitr; · unfold each; iempintro
    iapply (creds_res c heads); iexact H
  | cons j l ih =>
    refine (Entails.of_eq (Pipeline.launchCred_add (fun d => owedCodes d l) (fun d => tallyAt (cell (across d) (codesIn j)) () NK) c)).trans ?_
    iintro ⟨Hl, Hj⟩
    ihave Hl := ih $$ Hl
    icases Hl with ⟨Hl, Hr⟩
    isplitr [Hr]
    · rw [show each (fun j => credit F c (codesIn j)) (j :: l) = iprop(credit F c (codesIn j) ∗ each (fun j => credit F c (codesIn j)) l) from rfl]
      isplitl [Hj]
      · iapply (Pipeline.launchCred_tallyAt (siteSem (codesIn j)) across across across_across across_across () NK c); iexact Hj
      iexact Hl
    iexact Hr

/-- What the others owe a device is its credit. -/
theorem creds (c : Dev nD) : (Pipeline.launchCred owedAll c : sProp (𝕄 F))
    ⊢ iprop(cred (tallyAt (barCell c) () 2) ∗ ((all8 fun j => credit F c (codesIn j)) ∗ (all8 fun j => credit F c (resIn j)) ∗ credit F c stepsIn)) := by
  refine (Entails.of_eq (Pipeline.launchCred_add (fun d => owedSteps d + tallyAt (barCell (beside d)) () 1) (fun d => tallyAt (barCell (across d)) () 1) c)).trans ?_
  rw [Pipeline.launchCred_add (fun d => owedSteps d) (fun d => tallyAt (barCell (beside d)) () 1) c,
    show (Pipeline.launchCred (fun d => owedSteps d) c : sProp (𝕄 F)) = _ from
      Pipeline.launchCred_add (fun d => owedCodes d heads) (fun d => tallyAt (cell (across d) stepsIn) () NC) c,
    all8_eq, all8_eq]
  iintro ⟨⟨⟨Hc, Hs⟩, Hb⟩, Ha⟩
  ihave Hc := (creds_codes c heads) $$ Hc
  icases Hc with ⟨Hc, Hr⟩
  ihave Hb := (Pipeline.launchCred_tallyAt (SemLoc.reg barS) beside beside beside_beside beside_beside () 1 c) $$ Hb
  ihave Ha := (Pipeline.launchCred_tallyAt (SemLoc.reg barS) across across across_across across_across () 1 c) $$ Ha
  isplitl [Hb Ha]
  · iapply (show iprop(cred (tallyAt (barCell c) () 1) ∗ cred (tallyAt (barCell c) () 1)) ⊢ (cred (tallyAt (barCell c) () 2) : sProp (𝕄 F)) from
      (cred_add _ _).2.trans (Entails.of_eq (congrArg cred (tallyAt_add _ _ _ _))))
    isplitl [Hb] <;> iassumption
  isplitl [Hc]; · iexact Hc
  isplitl [Hr]; · iexact Hr
  iapply (Pipeline.launchCred_tallyAt (siteSem stepsIn) across across across_across across_across () NC c); iexact Hs

/-! ## Tokens -/

/-- A token for each payment: at a device's barrier by either neighbour, at each of its other cells one. -/
def payment : Dev nD × (Bool ⊕ Site) → GSem nD τ sig × ℕ × Bool
  | (c, .inl b) => (barCell c, 0, b)
  | (c, .inr k) => (cell c k, 0, false)

theorem payment_inj : Function.Injective payment := by
  rintro ⟨c, b | k⟩ ⟨c', b' | k'⟩ h
  · have h1 : c = c' := congrArg (fun t : GSem nD τ sig × ℕ × Bool => t.1.1.1) h
    have h2 : b = b' := congrArg (fun t : GSem nD τ sig × ℕ × Bool => t.2.2) h
    rw [h1, h2]
  · exact absurd (congrArg (fun t : GSem nD τ sig × ℕ × Bool => t.1.2) h) (fun h => siteSem_ne_bar k' h.symm)
  · exact absurd (congrArg (fun t : GSem nD τ sig × ℕ × Bool => t.1.2) h) (fun h => siteSem_ne_bar k h)
  · have h1 : c = c' := congrArg (fun t : GSem nD τ sig × ℕ × Bool => t.1.1.1) h
    have h2 : k = k' := siteSem_inj (congrArg (fun t : GSem nD τ sig × ℕ × Bool => t.1.2) h)
    rw [h1, h2]

def payments : Finset (GSem nD τ sig × ℕ × Bool) := Finset.univ.map ⟨payment, payment_inj⟩

/-- Who is across from whom, and beside whom. -/
def acrossEquiv : Dev nD ≃ Dev nD := ⟨across, across, across_across, across_across⟩
def besideEquiv : Dev nD ≃ Dev nD := ⟨beside, beside, beside_beside, beside_beside⟩

theorem payTo_payTo (c : Dev nD) (k : Site) : payTo (payTo c k) k = c := by
  rcases k with ⟨a, j⟩ | a
  · fin_cases a
    · rfl
    · exact across_across c
    · rfl
    · exact beside_beside c
  · fin_cases a
    · rfl
    · exact across_across c
def payEquiv : Dev nD × Site ≃ Dev nD × Site :=
  ⟨fun ck => (payTo ck.1 ck.2, ck.2), fun ck => (payTo ck.1 ck.2, ck.2), fun ck => Prod.ext (payTo_payTo _ _) rfl, fun ck => Prod.ext (payTo_payTo _ _) rfl⟩

/-- The tokens dealt to the devices that pay with them. -/
theorem tokens_dealt : (bigSep payments fun t => (dutyTok ER t.1 t.2.1 t.2.2 : sProp (𝕄 F)))
    ⊢ bigSep Finset.univ fun c : Dev nD => iprop((dutyTok ER (barCell (across c)) 0 false ∗ dutyTok ER (barCell (beside c)) 0 true)
        ∗ allSites fun k => token F (payTo c k) k) := by
  unfold payments
  rw [bigSep_map, BI.bigSep_univ_prod]
  have hsum (c : Dev nD) : (bigSep Finset.univ fun s : Bool ⊕ Site => (dutyTok ER (payment (c, s)).1 (payment (c, s)).2.1 (payment (c, s)).2.2 : sProp (𝕄 F)))
      = iprop((dutyTok ER (barCell c) 0 false ∗ dutyTok ER (barCell c) 0 true) ∗ allSites fun k => token F c k) := by
    rw [BI.bigSep_univ_sum, bigSep_univ_eq_bigSepL [false, true] (by decide) (by decide)]
    rfl
  refine (Entails.of_eq (bigSep_congr fun c _ => hsum c)).trans ?_
  rw [bigSep_sep', bigSep_sep', bigSep_sep', bigSep_sep']
  refine sep_mono (sep_mono ?_ ?_) ?_
  · exact Entails.of_eq (BI.bigSep_univ_equiv acrossEquiv (fun c : Dev nD => (dutyTok ER (barCell c) 0 false : sProp (𝕄 F))))
  · exact Entails.of_eq (BI.bigSep_univ_equiv besideEquiv (fun c : Dev nD => (dutyTok ER (barCell c) 0 true : sProp (𝕄 F))))
  · unfold allSites
    rw [← BI.bigSep_univ_prod (fun ck : Dev nD × Site => token F ck.1 ck.2), ← BI.bigSep_univ_prod (fun ck : Dev nD × Site => token F (payTo ck.1 ck.2) ck.2)]
    exact Entails.of_eq (BI.bigSep_univ_equiv payEquiv (fun ck : Dev nD × Site => token F ck.1 ck.2))

/-! ## The deal -/

theorem cells_apart : Disjoint (barCells : Finset (GSem nD τ sig)) siteCells := by
  rw [Finset.disjoint_left]
  rintro g h₁ h₂
  obtain ⟨c, -, rfl⟩ := Finset.mem_map.mp h₁
  obtain ⟨ck, -, h⟩ := Finset.mem_map.mp h₂
  exact siteSem_ne_bar ck.2 (congrArg Prod.snd h)

theorem unscoped_bar : ∀ sm : SemLoc sig, sm.isScoped .tc = false → sm = .reg barS := by decide
theorem unscopedSems_eq (c : Dev nD) : (unscopedSems0 c : sProp (𝕄 F)) = semVal (barCell c) 0 := by
  unfold unscopedSems0
  rw [show (Finset.univ.filter fun sm : SemLoc sig => ¬ sm.isScoped .tc) = {SemLoc.reg barS} from by decide, BI.bigSep_singleton]

/-- The pipeline's element of the ghost state, and the protocol's. -/
def u₀ : UU :=
  (initOf (Pipeline.cells (Pipeline.pin (pcfgs (F := F)) adm) cellOf_inj) (Pipeline.launchToks (Pipeline.pin (pcfgs (F := F)) adm) cellOf_inj),
    launchOf barCells siteCells payments)

/-- The protocol's element waits on device 0. -/
def G (c : Dev nD) : sProp (𝕄 F) := if c = 0 then BI.own (ER (launchOf barCells siteCells payments)) else iprop(emp)
theorem G_all : bigSep Finset.univ (G (F := F)) = BI.own (ER (launchOf barCells siteCells payments)) := by
  rw [bigSep_univ_at _ (0 : Dev nD), bigSep_congr (s := Finset.univ.erase (0 : Dev nD)) (Ψ := fun _ => (BI.emp : sProp (𝕄 F)))
      fun c hc => by unfold G; rw [if_neg (Finset.ne_of_mem_erase hc)]; rfl, BI.bigSep_emp_const]
  unfold G; rw [if_pos rfl]
  exact BI.equiv_iff.mp sep_emp

/-- What a device holds besides buffers and ghost state. -/
def carried (c : Dev nD) : sProp (𝕄 F) :=
  iprop(StableHlo.held (c : Thread nD τ) (Pipeline.ucRefs τ sig) (fun b => m (c, b))
    ∗ (cred (tallyAt (barCell c) () 2) ∗ ((all8 fun j => credit F c (codesIn j)) ∗ (all8 fun j => credit F c (resIn j)) ∗ credit F c stepsIn))
    ∗ owing c (owedAll c) ∗ ∃ r, prngReg c r)
/-- The ghost state that is one device's. -/
def dealt (c : Dev nD) : sProp (𝕄 F) :=
  iprop(atPos ER (barCell c) 0 ∅ 0 ∗ (allSites fun k => openTok ER (cell c k))
    ∗ (dutyTok ER (barCell (across c)) 0 false ∗ dutyTok ER (barCell (beside c)) 0 true) ∗ allSites fun k => token F (payTo c k) k)

/-- What rides beside the buffers, before the call and after. -/
def rides (c : Dev nD) : sProp (𝕄 F) := iprop(Tk m c ∗ (∃ r, prngReg c r) ∗ owing c (owedAll c))
def ridesAfter (c : Dev nD) : sProp (𝕄 F) := iprop(Yk (F := F) c ∗ (∃ r, prngReg c r) ∗ owing c 0)
abbrev T₀ (c : Dev nD) : sProp (𝕄 F) :=
  iprop(StableHlo.held (c : Thread nD τ) (Pipeline.ucRefs τ sig) (fun b => m (c, b)) ∗ rides m c)

theorem T₀_of (κ : GSem nD τ sig → ℕ) (c : Dev nD) : iprop(facts (ins m) κ ∗ (dealt c ∗ carried m c)) ⊢ T₀ m c := by
  unfold T₀ rides Tk brings dealt carried
  iintro ⟨#HF, ⟨Hat, Hop, ⟨Ht1, Ht2⟩, Ht⟩, Hh, ⟨Hcb, Hc⟩, HO, Hp⟩
  isplitl [Hh]; · iexact Hh
  isplitr [Hp HO]
  · iexists κ
    isplitr; · iexact HF
    isplitl [Ht1 Ht2 Hat Hcb]
    · isplitl [Ht1]; · iexact Ht1
      isplitl [Ht2]; · iexact Ht2
      isplitl [Hat] <;> iassumption
    isplitl [Hop]; · iexact Hop
    isplitl [Ht] <;> iassumption
  isplitl [Hp] <;> iassumption

theorem init :
    iprop((bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ G c)) ∗ levAts L lv)
      ⊢ (|={Set.univ}=> bigSep Finset.univ (T₀ m) : sProp (𝕄 F)) := by
  have hcore (c : Dev nD) : iprop(unscopedBufs c (fun b => m ((c : Thread nD τ).loc b)) ∗ unscopedSems0 c
        ∗ owes (c : Thread nD τ) (owedAll c) ∅ ∗ Pipeline.launchCred owedAll c ∗ prngReg c (ρ c) ∗ G c)
      ⊢ (iprop(carried m c ∗ (semVal (barCell c) 0 ∗ G c)) : sProp (𝕄 F)) := by
    rw [show unscopedBufs c (fun b => m ((c : Thread nD τ).loc b)) = StableHlo.held (c : Thread nD τ) (Pipeline.ucRefs τ sig) (fun b => m (c, b)) from
      Pipeline.unscopedBufs_held c (fun b => m (c, b)), unscopedSems_eq]
    unfold carried owing
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexists ∅; iexact HO
      iexists (ρ c); iexact Hp
    isplitl [Hus] <;> iassumption
  have hv : bigSep Finset.univ (fun c : Dev nD => (semVal (barCell c) 0 : sProp (𝕄 F))) ⊢ bigSep barCells (fun g => (semVal g 0 : sProp (𝕄 F))) :=
    Entails.of_eq (bigSep_map (s := Finset.univ) barEmb (Φ := fun g : GSem nD τ sig => (semVal g 0 : sProp (𝕄 F)))).symm
  have hat : bigSep barCells (fun g => (atPos ER g 0 ∅ 0 : sProp (𝕄 F))) ⊢ bigSep Finset.univ (fun c : Dev nD => (atPos ER (barCell c) 0 ∅ 0 : sProp (𝕄 F))) :=
    Entails.of_eq (bigSep_map (s := Finset.univ) barEmb (Φ := fun g : GSem nD τ sig => (atPos ER g 0 ∅ 0 : sProp (𝕄 F))))
  have hopen : bigSep siteCells (fun g => (openTok ER g : sProp (𝕄 F)))
      ⊢ bigSep Finset.univ (fun c : Dev nD => (allSites fun k => openTok ER (cell c k) : sProp (𝕄 F))) :=
    Entails.of_eq (by rw [bigSep_map, BI.bigSep_univ_prod]; rfl)
  iintro ⟨H, #HL⟩
  ihave H' := (show (bigSep Finset.univ fun c : Dev nD => iprop(unscopedBufs c (fun b => m ((c : Thread nD τ).loc b)) ∗ unscopedSems0 c
          ∗ owes (c : Thread nD τ) (owedAll c) ∅ ∗ Pipeline.launchCred owedAll c ∗ prngReg c (ρ c) ∗ G c))
      ⊢ (bigSep Finset.univ fun c : Dev nD => iprop(carried m c ∗ (semVal (barCell c) 0 ∗ G c)) : sProp (𝕄 F)) from bigSep_mono fun c _ => hcore c) $$ H
  ihave H2 := bigSep_unpair $$ H'; icases H2 with ⟨HB, H3⟩
  ihave H4 := bigSep_unpair $$ H3; icases H4 with ⟨Hv, HG⟩
  ihave Hu := (Entails.of_eq (G_all (F := F))) $$ HG
  imod (Rounds.fund_launch ER (sched (ins m)) cells_apart (fun g _ h => h) payments) $$ [Hv Hu] with ⟨%κ, -, #Hinv, #Hr, Hat, Hopen, Htok⟩
  · isplitl [Hv]
    · iapply hv $$ Hv
    · iexact Hu
  imodintro
  iapply (bigSep_with_persistent (R := facts (ins m) κ) (Φ := fun c => iprop(dealt c ∗ carried m c)) fun c _ => T₀_of m κ c)
  isplitr
  · unfold facts
    isplitr; · iexact Hinv
    isplitr; · iexact Hr
    iexact HL
  iapply bigSep_pair
  isplitr [HB]
  · unfold dealt
    iapply bigSep_pair; isplitl [Hat]; · iapply hat $$ Hat
    iapply bigSep_pair; isplitl [Hopen]; · iapply hopen $$ Hopen
    iapply (tokens_dealt (F := F)) $$ Htok
  · iexact HB

/-! ## The program as three segments -/

local notation "ℍ" => Pipeline.HostSeg (Name := ℕ) (U := UU) (pcfgs (F := F)) defs₀ 𝒱₀ L lv

theorem sub_uc (ops : List (HloOp τ sig (Elt F))) (h : ops.Forall fun op => op.bufs ⊆ StableHlo.tcRefs τ sig) :
    ∀ op ∈ ops, op.bufs ⊆ Pipeline.ucRefs τ sig := fun op hop => Pipeline.sub_ucRefs op (List.forall_iff_forall_mem.mp h op hop)

/-- A device's buffers when the program ends. -/
def V2 (c : Dev nD) : Valuation τ sig (Elt F) := StableHlo.after hostOps1 (V1 m c)

def seg0 : ℍ := Pipeline.HostSeg.ofOps _ _ _ _ _ (Pipeline.ucRefs τ sig) hostOps0 (sub_uc _ hostOps0_sub)
  (List.forall_iff_forall_mem.mp hostOps0_fresh) (fun c b => m (c, b)) (rides m)
def seg1 : ℍ := Pipeline.HostSeg.ofOps _ _ _ _ _ (Pipeline.ucRefs τ sig) hostOps1 (sub_uc _ hostOps1_sub)
  (List.forall_iff_forall_mem.mp hostOps1_fresh) (V1 m) ridesAfter

theorem arr_uc : Pipeline.arrRefs (τ := τ) spec0 ⊆ Pipeline.ucRefs τ sig := Pipeline.arrRefs_sub_ucRefs spec0 winFacts0.arr_unscoped

theorem region_pre (c : Dev nD) : (seg0 m).post c ⊢ (region m).pre c := by
  show iprop(StableHlo.held (c : Thread nD τ) (Pipeline.ucRefs τ sig) (V0 m c) ∗ rides m c) ⊢
    iprop(StableHlo.held (c.tc : Thread nD τ) (Pipeline.arrRefs (τ := τ) spec0) (V0 m c) ∗ (∃ r, prngReg c r)
      ∗ (StableHlo.held (c.tc : Thread nD τ) others (V0 m c) ∗ emp) ∗ Tk m c ∗ ∃ Wd, owes (c : Thread nD τ) (0 + owedAll c) Wd)
  rw [StableHlo.held_sub_split (c : Thread nD τ) arr_uc, zero_add]
  unfold rides owing
  iintro ⟨⟨Ha, Hs⟩, HT, Hp, HO⟩
  isplitl [Ha]; · iexact Ha
  isplitl [Hp]; · iexact Hp
  isplitl [Hs]
  · isplitl [Hs]; · iexact Hs
    iempintro
  isplitl [HT] <;> iassumption

theorem region_post (c : Dev nD) : (region m).post c ⊢ (seg1 m).pre c := by
  show iprop(StableHlo.held (c.tc : Thread nD τ) (Pipeline.arrRefs (τ := τ) spec0) (V1 m c) ∗ (∃ r, prngReg c r)
      ∗ (StableHlo.held (c.tc : Thread nD τ) others (V1 m c) ∗ emp) ∗ Yk c ∗ ∃ Wd, owes (c : Thread nD τ) (0 : CellTallies nD τ sig Unit) Wd)
    ⊢ iprop(StableHlo.held (c : Thread nD τ) (Pipeline.ucRefs τ sig) (V1 m c) ∗ ridesAfter c)
  rw [StableHlo.held_sub_split (c : Thread nD τ) arr_uc]
  unfold ridesAfter owing
  iintro ⟨Ha, Hp, ⟨Hs, -⟩, HY, HO⟩
  isplitl [Ha Hs]; · isplitl [Ha] <;> iassumption
  isplitl [HY]; · iexact HY
  isplitl [Hp] <;> iassumption

def segs : List (Pipeline.Seg (pcfgs (F := F)) adm (pdats m) () defs₀ 𝒱₀ L lv) :=
  [.host (seg0 m), .region (region m), .host (seg1 m)]

abbrev Tₙ (c : Dev nD) : sProp (𝕄 F) := iprop(StableHlo.held (c : Thread nD τ) (Pipeline.ucRefs τ sig) (V2 m c) ∗ semVal (barCell c) 0)

/-- The buffers that the claim speaks of. -/
def shown : Finset (DevRef τ sig) :=
  {Proc.devRef .tc main_arg0, Proc.devRef .tc main_arg1, Proc.devRef .tc main_arg2, Proc.devRef .tc main_v11}
theorem shown_uc : shown ⊆ Pipeline.ucRefs τ sig := by decide
theorem shown_eq (c : Dev nD) (W : Valuation τ sig (Elt F)) : (StableHlo.held (c : Thread nD τ) shown W : sProp (𝕄 F))
    = iprop(pt c main_arg0 (W main_arg0) ∗ pt c main_arg1 (W main_arg1) ∗ pt c main_arg2 (W main_arg2) ∗ pt c main_v11 (W main_v11)) := by
  unfold StableHlo.held shown
  rw [bigSep_insert (by decide), bigSep_insert (by decide), bigSep_insert (by decide), BI.bigSep_singleton]
  rfl

set_option backward.isDefEq.respectTransparency.types false in
/-- Every execution ends, with these buffers as computed and every semaphore counter at zero. -/
theorem run_shown : θ_run defs (onTc (τ := τ) (main (F := F))) ⟨m, fun _ => 0, ρ⟩
    (fun r => (∀ c : Dev nD, r.2.mem ((c : Thread nD τ).loc main_arg0) = V2 m c main_arg0 ∧ r.2.mem ((c : Thread nD τ).loc main_arg1) = V2 m c main_arg1
        ∧ r.2.mem ((c : Thread nD τ).loc main_arg2) = V2 m c main_arg2 ∧ r.2.mem ((c : Thread nD τ).loc main_v11) = V2 m c main_v11) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (region m) rfl rfl c]; exact .rfl)
    (by simp only [segs, Pipeline.Seg.pipes_host, Pipeline.Seg.pipes_region, Pipeline.Seg.pipes_nil]; decide)
    (O₀ := owedAll) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => region_pre m c, fun c => region_post m c, fun c => ?_⟩
      show iprop(StableHlo.held (c : Thread nD τ) (Pipeline.ucRefs τ sig) (V2 m c) ∗ ridesAfter c)
        ⊢ iprop(Tₙ m c ∗ ∃ W, owes (c : Thread nD τ) (0 : CellTallies nD τ sig Unit) W)
      unfold ridesAfter owing
      iintro ⟨Hh, Hb0, -, HO⟩
      isplitr [HO]
      · isplitl [Hh] <;> iassumption
      · iexact HO)
    (hinit := init m ρ)
    (QY := fun c s => (s.mem ((c : Thread nD τ).loc main_arg0) = V2 m c main_arg0 ∧ s.mem ((c : Thread nD τ).loc main_arg1) = V2 m c main_arg1
        ∧ s.mem ((c : Thread nD τ).loc main_arg2) = V2 m c main_arg2 ∧ s.mem ((c : Thread nD τ).loc main_v11) = V2 m c main_v11) ∧ s.sem (barCell c) = 0)
    (hfin := fun c s' => by
      dsimp only [Tₙ]
      rw [StableHlo.held_sub_split (c : Thread nD τ) shown_uc, shown_eq]
      iintro ⟨⟨⟨⟨H0, H1, H2, H3⟩, -⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => (h c).1,
      sem_eq_zero hs fun c sm hsm => by
        obtain rfl := unscoped_bar sm hsm
        exact (h c).2⟩)

end Cert.KernelIdeal.Attn

end
-- ==== Proof.Run.lean ====
module

public import proofs.«01_k».proof.Proof.Launch
public import proofs.«01_k».proof.Proof.Gen.Kernel
public import proofs.«01_k».proof.Defs

@[expose] public section

/-! # Every run of the program

The run of the four devices: it ends, the arguments are as they were, the result is the joined heads in
the layout of the arguments, every semaphore counter is zero. It is stated once, for any floats; the
printed kernel is that program at the machine's words, each named constant being its word. -/

noncomputable section

namespace Cert.KernelIdeal.Attn

open Idealize.ShloMosaic Idealize.ShloMosaic.TcCoe
open Idealize.SL Idealize.SL.Sem
open Cert.KernelIdeal Cert.KernelIdeal.Gen

section
variable {F : FTy → Type} [FloatOps F] [Named F] (m : (ℓ : Loc nD τ sig) → Buf (Elt F) ℓ) (ρ : Dev nD → PrngReg)

/-- The heads of a device's output in the layout of the arguments: batch, position, head, entry. -/
def laidOut (o : S16x512x64.Idx → Elt F .f32) : S2x512x8x64.Idx → Elt F .f32 :=
  transpose S2x512x8x64 [0, 2, 1, 3] (shapeCast S2x8x512x64 o shapeCasts_S16x512x64_S2x8x512x64) transposes_S2x8x512x64_S2x512x8x64_0_2_1_3

/-- The operations after the call write neither of them an argument. -/
theorem V2_ne (c : Dev nD) {b : Ref sig .tc} (h0 : b ≠ main_v10) (h1 : b ≠ main_v11) : V2 m c b = V1 m c b :=
  StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h0, StableHlo.devRef_ne_of_ne h1⟩))
theorem V2_arg0 (c : Dev nD) : V2 m c main_arg0 = m ((c : Thread nD τ).loc main_arg0) :=
  (V2_ne m c (by decide) (by decide)).trans ((V1_ne m c (b := Proc.devRef .tc main_arg0) (by decide)).trans (V_main_arg0 m c))
theorem V2_arg1 (c : Dev nD) : V2 m c main_arg1 = m ((c : Thread nD τ).loc main_arg1) :=
  (V2_ne m c (by decide) (by decide)).trans ((V1_ne m c (b := Proc.devRef .tc main_arg1) (by decide)).trans (V_main_arg1 m c))
theorem V2_arg2 (c : Dev nD) : V2 m c main_arg2 = m ((c : Thread nD τ).loc main_arg2) :=
  (V2_ne m c (by decide) (by decide)).trans ((V1_ne m c (b := Proc.devRef .tc main_arg2) (by decide)).trans (V_main_arg2 m c))
theorem V2_out (c : Dev nD) : V2 m c main_v11 = laidOut (outAt (ins m) c) := by
  unfold V2 laidOut
  rw [← V1_out m c]
  simp only [StableHlo.after]
  rfl

/-- The run, for any floats. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v11) = laidOut (outAt (ins m) c)) ∧ r.2.sem = fun _ => 0) :=
  (θ_run defs _ _).mono (fun _ h => ⟨fun c => ⟨(h.1 c).1.trans (V2_arg0 m c), (h.1 c).2.1.trans (V2_arg1 m c),
    (h.1 c).2.2.1.trans (V2_arg2 m c), (h.1 c).2.2.2.trans (V2_out m c)⟩, h.2⟩) (run_shown m ρ)
end

/-- At the machine's words a named constant is its word. -/
abbrev words : Named Bits := ⟨fun _ _ _ b => Scalar.ofBits _ b⟩
attribute [local instance] words

/-- With the words for the names, the two programs are one text. -/
theorem same_main : Cert.Kernel.main (F := Bits) = Cert.KernelIdeal.main (F := Bits) := by
  chain_rfl
theorem same_defs : Cert.Kernel.defs (F := Bits) = Cert.KernelIdeal.defs (F := Bits) := by
  chain_rfl

theorem frame_kernel : Cert.quiescent_Kernel (hKernel := Cert.Kernel.Gen.facts) := by
  intro m ρ _
  rw [same_main, same_defs]
  exact (θ_run (Cert.KernelIdeal.defs (F := Bits)) _ _).mono
    (fun _ h => ⟨fun c => ⟨(h.1 c).1, (h.1 c).2.1, (h.1 c).2.2.1⟩, h.2⟩) (run_main (F := Bits) m ρ)

end Cert.KernelIdeal.Attn

end
-- ==== Proof.Equal.lean ====
module

public import proofs.«01_k».proof.Proof.Heads
public import proofs.«01_k».proof.Proof.Stages
public import proofs.«01_k».proof.Proof.Run
public import proofs.«01_k».proof.Defs
public import Idealize.ShloMosaic.Lib.Layout

@[expose] public section

/-! # The two programs compute the same

A device's arguments are its blocks of the whole arrays; its output, read at a batch, a position, a head and an entry, is the
attention that the reference has at the same place of its block. -/

set_option maxRecDepth 16384

noncomputable section

namespace Cert.KernelIdeal.Attn

open Idealize.ShloMosaic Idealize.ShloMosaic.TcCoe Idealize.SL.Sem
open Cert.KernelIdeal Cert.KernelIdeal.Gen Cert.Numbers
open Cert.ReferenceIdeal.Stages (pos opp)

/-! ## The precondition -/

theorem facts_finite : Cert.Pre_finite_KernelIdeal.Facts := ⟨by decide⟩
theorem facts_finite_whole : Cert.Pre_finite_ReferenceIdeal.Facts := ⟨by decide⟩
attribute [local instance] facts_finite

/-- A magnitude below infinity is a real's. -/
theorem real_of_lt {x : EReal} (h : FloatOps.cmpf (F := Ideal) (φ := .f32) .olt (FloatOps.absf (F := Ideal) (φ := .f32) x)
    (Ideal.ofBits .f32 0x7F800000#32) = 1#1) : x = (x.toReal : EReal) := by
  have ht : Ideal.ofBits .f32 0x7F800000#32 = ⊤ := by simp [Ideal.ofBits, Ideal.ieee]
  rw [ht] at h
  induction x with
  | bot => exact absurd (show Ideal.cmp .olt (max ⊥ (-⊥)) ⊤ = 1#1 from h) (by simp [Ideal.cmp])
  | top => exact absurd (show Ideal.cmp .olt (max ⊤ (-⊤)) ⊤ = 1#1 from h) (by simp [Ideal.cmp])
  | coe r => rfl

section
variable (a0 a1 a2 : FVec Ideal S2x512x8x64 .f32) (b : Fin 2) (p : Fin 512) (h : Fin 8) (e : Fin 64)
theorem real0 (hp : (Cert.Pre_finite_KernelIdeal.fn (F := Ideal) a0 a1 a2).1 = fun _ => 1#1) : a0 (ix4 b p h e) = ((a0 (ix4 b p h e)).toReal : EReal) := by
  refine real_of_lt (Eq.trans ?_ (congrFun hp (ix4 b p h e)))
  pointwise! [Cert.Pre_finite_KernelIdeal.fn]
theorem real1 (hp : (Cert.Pre_finite_KernelIdeal.fn (F := Ideal) a0 a1 a2).2 = fun _ => 1#1) : a1 (ix4 b p h e) = ((a1 (ix4 b p h e)).toReal : EReal) := by
  refine real_of_lt (Eq.trans ?_ (congrFun hp (ix4 b p h e)))
  pointwise! [Cert.Pre_finite_KernelIdeal.fn]
end

/-! ## The blocks -/

/-- The half of the sequence that a device holds. -/
def part (c : Dev nD) : Fin 2 := ⟨c.val % 2, Nat.mod_lt _ (by decide)⟩
theorem part_across : ∀ c : Dev nD, part (across c) = opp (part c) := by decide
theorem part_beside : ∀ c : Dev nD, part (beside c) = part c := by decide
theorem side_across : ∀ c : Dev nD, side (across c) = side c := by decide
theorem side_beside : ∀ c : Dev nD, side (beside c) = 1 - side c := by decide

/-- Device `c`'s block of a whole array. -/
abbrev blockOf (c : Dev nD) (v : Cert.ReferenceIdeal.S2x1024x8x64.Idx → EReal) : S2x512x8x64.Idx → EReal :=
  Layout.blockN ⟨4, ![2, 512, 8, 64]⟩ ⟨4, ![2, 1024, 8, 64]⟩ (Layout.meshBlock [2, 2] ![[], [1], [], []] c) v
theorem block_at (c : Dev nD) (v : Cert.ReferenceIdeal.S2x1024x8x64.Idx → EReal) (b : Fin 2) (p : Fin 512) (h : Fin 8) (e : Fin 64) :
    blockOf c v (ix4 b p h e) = v (ix4 b (pos (part c) p) h e) := by
  have hc : ((Layout.meshBlock [2, 2] (![[], [1], [], []] : Fin 4 → List ℕ) c) 1).val = c.val % 2 := by revert c; decide
  show v _ = v _
  refine congrArg v (funext fun a => Fin.ext ?_)
  rw [Layout.TilesN.idx_val]
  fin_cases a
  · show 0 * 2 + b.val = b.val; omega
  · show ((Layout.meshBlock [2, 2] (![[], [1], [], []] : Fin 4 → List ℕ) c) 1).val * 512 + p.val = 512 * (c.val % 2) + p.val
    rw [hc]; omega
  · show 0 * 8 + h.val = h.val; omega
  · show 0 * 64 + e.val = e.val; omega

/-! ## What the kernel finds -/

/-- The place of batch `b` and head `h` among the sixteen. -/
def place (b : Fin 2) (h : Fin 8) : Fin 16 := ⟨8 * b.val + h.val, by omega⟩

section
variable (m : (ℓ : Loc nD τ sig) → Buf (Elt Ideal) ℓ) (c : Dev nD) (b : Fin 2) (h : Fin 8) (p : Fin 512) (e : Fin 64)

theorem ins_q : (ins m).q c = shapeCast S16x512x64 (transpose S2x8x512x64 [0, 2, 1, 3] (m ((c : Thread nD τ).loc main_arg0))
    transposes_S2x512x8x64_S2x8x512x64_0_2_1_3 : FVec Ideal S2x8x512x64 .f32) shapeCasts_S2x8x512x64_S16x512x64 := rfl
theorem ins_k : (ins m).k c = (truncf .bf16 (shapeCast S16x512x64 (transpose S2x8x512x64 [0, 2, 1, 3] (m ((c : Thread nD τ).loc main_arg1))
    transposes_S2x512x8x64_S2x8x512x64_0_2_1_3 : FVec Ideal S2x8x512x64 .f32) shapeCasts_S2x8x512x64_S16x512x64 : FVec Ideal S16x512x64 .f32) bitsLt_bf16_f32 : FVec Ideal S16x512x64 .bf16) := rfl
theorem ins_v : (ins m).v c = (truncf .bf16 (shapeCast S16x512x64 (transpose S2x8x512x64 [0, 2, 1, 3] (m ((c : Thread nD τ).loc main_arg2))
    transposes_S2x512x8x64_S2x8x512x64_0_2_1_3 : FVec Ideal S2x8x512x64 .f32) shapeCasts_S2x8x512x64_S16x512x64 : FVec Ideal S16x512x64 .f32) bitsLt_bf16_f32 : FVec Ideal S16x512x64 .bf16) := rfl

theorem heads_at (t : FVec Ideal S2x512x8x64 .f32) : (shapeCast S16x512x64 (transpose S2x8x512x64 [0, 2, 1, 3] t
    transposes_S2x512x8x64_S2x8x512x64_0_2_1_3 : FVec Ideal S2x8x512x64 .f32) shapeCasts_S2x8x512x64_S16x512x64 : FVec Ideal S16x512x64 .f32)
    (ix3 (place b h) p e) = t (ix4 b p h e) := by
  have hb : (place b h).val / 8 = b.val := by show (8 * b.val + h.val) / 8 = b.val; omega
  have hh : (place b h).val % 8 = h.val := by show (8 * b.val + h.val) % 8 = h.val; omega
  pointwise
  rw [show (⟨(place b h).val / 8, by omega⟩ : Fin 2) = b from Fin.ext hb, show (⟨(place b h).val % 8, by omega⟩ : Fin 8) = h from Fin.ext hh]

theorem laid_at (o : FVec Ideal S16x512x64 .f32) : laidOut (F := Ideal) o (ix4 b p h e) = o (ix3 (place b h) p e) := by
  pointwise [laidOut]
  rw [show (⟨b.val * 8 + h.val, by omega⟩ : Fin 16) = place b h from Fin.ext (by show b.val * 8 + h.val = 8 * b.val + h.val; omega)]

theorem q_at : (ins m).q c (ix3 (place b h) p e) = m ((c : Thread nD τ).loc main_arg0) (ix4 b p h e) :=
  (congrFun (ins_q m c) _).trans (heads_at b h p e _)
theorem k_at : (ins m).k c (ix3 (place b h) p e) = m ((c : Thread nD τ).loc main_arg1) (ix4 b p h e) :=
  (congrFun (ins_k m c) _).trans (heads_at b h p e _)
theorem v_at : (ins m).v c (ix3 (place b h) p e) = m ((c : Thread nD τ).loc main_arg2) (ix4 b p h e) :=
  (congrFun (ins_v m c) _).trans (heads_at b h p e _)

end

theorem within_at (n : Fin 16) (p : Fin 512) (e : Fin 64) : within (ix3 n p e) = ix3 0 p e := by
  funext a
  fin_cases a <;> rfl
/-- The batch that a device computes. -/
def batch (c : Dev nD) : Fin 2 := ⟨side c, Nat.lt_succ_of_le (side_le c)⟩
theorem batch_across : ∀ c : Dev nD, batch (across c) = batch c := by decide
theorem batch_beside : ∀ (c : Dev nD) (b : Fin 2), ¬ b.val = side c → batch (beside c) = b := by decide
theorem mine_at (c : Dev nD) (h : Fin 8) (p : Fin 512) (e : Fin 64) : (rMine c h).emb (ix3 0 p e) = ix3 (place (batch c) h) p e := by
  rw [← within_at (place (batch c) h)]
  exact mine_emb c h _ rfl

/-! ## What the kernel leaves -/

section
variable {m : (ℓ : Loc nD τ sig) → Buf (Elt Ideal) ℓ} {q k v : Cert.ReferenceIdeal.S2x1024x8x64.Idx → EReal}
  {Q K : Fin 2 → Fin 8 → Fin 1024 → Fin 64 → ℝ}
  (h0 : ∀ c : Dev nD, m ((c : Thread nD τ).loc main_arg0) = blockOf c q) (h1 : ∀ c : Dev nD, m ((c : Thread nD τ).loc main_arg1) = blockOf c k)
  (h2 : ∀ c : Dev nD, m ((c : Thread nD τ).loc main_arg2) = blockOf c v)
  (hq : ∀ b h p e, q (ix4 b p h e) = (Q b h p e : EReal)) (hk : ∀ b h p e, k (ix4 b p h e) = (K b h p e : EReal))

/-- The attention of a query that device `c` holds. -/
abbrev expected (Q K : Fin 2 → Fin 8 → Fin 1024 → Fin 64 → ℝ) (v : Cert.ReferenceIdeal.S2x1024x8x64.Idx → EReal)
    (c : Dev nD) (b : Fin 2) (h : Fin 8) (p : Fin 512) (e : Fin 64) : EReal :=
  Numbers.attend (Q b h (pos (part c) p)) (fun r => K b h (pos (part c) r)) (fun r i => v (ix4 b (pos (part c) r) h i))
    (fun r => K b h (pos (opp (part c)) r)) (fun r i => v (ix4 b (pos (opp (part c)) r) h i)) e

include h0 h1 h2 hq hk

omit h1 h2 hk in
theorem qHead_real (c : Dev nD) (h : Fin 8) (p : Fin 512) (e : Fin 64) :
    qHead (ins m) c h (ix3 0 p e) = (Q (batch c) h (pos (part c) p) e : EReal) := by
  unfold qHead
  rw [mine_at, q_at, h0, block_at, hq]
omit h0 h2 hq in
theorem kHead_real (c : Dev nD) (h : Fin 8) (p : Fin 512) (e : Fin 64) :
    kHead (ins m) c h (ix3 0 p e) = (K (batch c) h (pos (part c) p) e : EReal) := by
  unfold kHead
  rw [mine_at, k_at, h1, block_at, hk]
omit h0 h1 hq hk in
theorem vHead_at (c : Dev nD) (h : Fin 8) (p : Fin 512) (e : Fin 64) :
    vHead (ins m) c h (ix3 0 p e) = v (ix4 (batch c) (pos (part c) p) h e) := by
  unfold vHead
  rw [mine_at, v_at, h2, block_at]

theorem mineAt_real (c : Dev nD) (h : Fin 8) (p : Fin 512) (e : Fin 64) :
    mineAt (ins m) c h (ix3 0 p e) = expected Q K v c (batch c) h p e := by
  have hk' := kHead_real h1 hk (across c) h
  have hv' := fun r i => vHead_at h2 (across c) h r i
  rw [batch_across, part_across] at hk' hv'
  refine (result_real (qHead_real h0 hq c h) (kHead_real h1 hk c h) hk' _ _ p e).trans ?_
  simp only [hv', vHead_at h2]
theorem gotAt_real (c : Dev nD) (h : Fin 8) (p : Fin 512) (e : Fin 64) :
    resultGot (sentAt (ins m) c h) (ix3 0 p e) = expected Q K v c (batch c) h p e := by
  have hk' := kHead_real h1 hk (across c) h
  have hv' := fun r i => vHead_at h2 (across c) h r i
  rw [batch_across, part_across] at hk' hv'
  refine (got_real (qHead_real h0 hq c h) (kHead_real h1 hk c h) hk' _ _ p e).trans ?_
  simp only [hv', vHead_at h2]

theorem outAt_real (c : Dev nD) (b : Fin 2) (h : Fin 8) (p : Fin 512) (e : Fin 64) :
    outAt (ins m) c (ix3 (place b h) p e) = expected Q K v c b h p e := by
  have hh : headOf (ix3 (place b h) p e) = h := Fin.ext (by show (8 * b.val + h.val) % 8 = h.val; omega)
  have hb : (8 * b.val + h.val) / 8 = b.val := by omega
  unfold outAt
  rw [hh, within_at]
  show (if (8 * b.val + h.val) / 8 = side c then _ else _) = _
  rw [hb]
  split
  · rename_i hs
    rw [mineAt_real h0 h1 h2 hq hk, show batch c = b from Fin.ext hs.symm]
  · rename_i hs
    unfold theirsAt
    rw [gotAt_real h0 h1 h2 hq hk, batch_beside c b hs]
    unfold expected
    rw [part_beside]

/-- A device's output is its block of the reference's result. -/
theorem output_eq (c : Dev nD) : laidOut (outAt (ins m) c) = blockOf c (Cert.ReferenceIdeal.Stages.out q k v) := by
  funext i
  obtain ⟨b, p, h, e, rfl⟩ : ∃ (b : Fin 2) (p : Fin 512) (h : Fin 8) (e : Fin 64), i = ix4 b p h e :=
    ⟨i 0, i 1, i 2, i 3, by funext a; fin_cases a <;> rfl⟩
  rw [laid_at, outAt_real h0 h1 h2 hq hk, block_at, Cert.ReferenceIdeal.Stages.out_real hq hk]
end

/-! ## The queries and keys are real -/

/-- Arrays all of whose blocks are real. -/
theorem whole_real {v : Cert.ReferenceIdeal.S2x1024x8x64.Idx → EReal}
    (hv : ∀ (c : Dev nD) (b : Fin 2) (p : Fin 512) (h : Fin 8) (e : Fin 64), blockOf c v (ix4 b p h e) = ((blockOf c v (ix4 b p h e)).toReal : EReal))
    (b : Fin 2) (h : Fin 8) (p : Fin 1024) (e : Fin 64) : v (ix4 b p h e) = ((v (ix4 b p h e)).toReal : EReal) := by
  have := hv ⟨p.val / 512, by show _ < 4; omega⟩ b ⟨p.val % 512, by omega⟩ h e
  rw [block_at] at this
  rwa [show pos (part (⟨p.val / 512, by show _ < 4; omega⟩ : Dev nD)) ⟨p.val % 512, by omega⟩ = p from
    Fin.ext (by show 512 * (p.val / 512 % 2) + p.val % 512 = p.val; omega)] at this

/-! ## The claims -/

theorem frame_ideal : Cert.quiescent_KernelIdeal (hKernelIdeal := Cert.KernelIdeal.Gen.facts) := fun m ρ _ =>
  (θ_run (Cert.KernelIdeal.defs (F := Ideal)) _ _).mono
    (fun _ h => ⟨fun c => ⟨(h.1 c).1, (h.1 c).2.1, (h.1 c).2.2.1⟩, h.2⟩) (run_main (F := Ideal) m ρ)
theorem frame_ideal_finite : Cert.quiescent_KernelIdeal_pre_finite_KernelIdeal (hKernelIdeal := Cert.KernelIdeal.Gen.facts)
    (hPre_finite_KernelIdeal := facts_finite) := fun m ρ _ =>
  (θ_run (Cert.KernelIdeal.defs (F := Ideal)) _ _).mono
    (fun _ h => ⟨fun c => ⟨(h.1 c).1, (h.1 c).2.1, (h.1 c).2.2.1⟩, h.2⟩) (run_main (F := Ideal) m ρ)

/-- The reference has no semaphores. -/
theorem no_sem : ∀ _ : SemLoc Cert.ReferenceIdeal.sig, False := by decide
theorem frame_reference : Cert.quiescent_ReferenceIdeal (hReferenceIdeal := Cert.ReferenceIdeal.Gen.facts) := fun m ρ _ =>
  (θ_run (Cert.ReferenceIdeal.defs (F := Ideal)) _ _).mono
    (fun _ h => ⟨fun c => ⟨(h c).2.1, (h c).2.2.1, (h c).2.2.2⟩, funext fun g => (no_sem g.2).elim⟩) (Cert.ReferenceIdeal.Value.run (F := Ideal) m ρ)
theorem frame_reference_finite : Cert.quiescent_ReferenceIdeal_pre_finite_ReferenceIdeal (hReferenceIdeal := Cert.ReferenceIdeal.Gen.facts)
    (hPre_finite_ReferenceIdeal := facts_finite_whole) := fun m ρ _ =>
  (θ_run (Cert.ReferenceIdeal.defs (F := Ideal)) _ _).mono
    (fun _ h => ⟨fun c => ⟨(h c).2.1, (h c).2.2.1, (h c).2.2.2⟩, funext fun g => (no_sem g.2).elim⟩) (Cert.ReferenceIdeal.Value.run (F := Ideal) m ρ)

/-- The two named constants stand for the numbers that they round. -/
theorem names : Cert.preserves_Kernel_KernelIdeal :=
  ⟨⟨rfl, fun _ => IdealRules.named_const.ideal_named _ _ _ _ rfl, step_eq⟩,
    ⟨rfl, fun _ => IdealRules.named_const.ideal_named _ _ _ _ rfl, scale_eq⟩⟩

theorem same_function : Cert.algebraic_KernelIdeal_ReferenceIdeal_pre_finite_KernelIdeal (hKernelIdeal := Cert.KernelIdeal.Gen.facts)
    (hReferenceIdeal := Cert.ReferenceIdeal.Gen.facts) (hPre_finite_KernelIdeal := facts_finite) := by
  intro m ρ m' ρ' hfin hblk
  have e0 : ∀ c : Dev nD, m ((c : Thread nD τ).loc main_arg0) = blockOf c _ := fun c => (hblk c).1
  have e1 : ∀ c : Dev nD, m ((c : Thread nD τ).loc main_arg1) = blockOf c _ := fun c => (hblk c).2.1
  have e2 : ∀ c : Dev nD, m ((c : Thread nD τ).loc main_arg2) = blockOf c _ := fun c => (hblk c).2.2
  have r0 := whole_real fun c b p h e => by have := real0 _ _ _ b p h e (hfin c).1; rwa [e0 c] at this
  have r1 := whole_real fun c b p h e => by have := real1 _ _ _ b p h e (hfin c).2; rwa [e1 c] at this
  refine ⟨Cert.ReferenceIdeal.Value.res_main_v55 m' 0, ?_, ?_⟩
  · refine (θ_run (Cert.KernelIdeal.defs (F := Ideal)) _ _).mono (fun _ h c => ⟨?_, (h.1 c).1, (h.1 c).2.1, (h.1 c).2.2.1⟩) (run_main (F := Ideal) m ρ)
    rw [Cert.ReferenceIdeal.Stages.out_eq]
    exact (h.1 c).2.2.2.trans (output_eq e0 e1 e2 r0 r1 c)
  · exact (θ_run (Cert.ReferenceIdeal.defs (F := Ideal)) _ _).mono (fun _ h => h 0) (Cert.ReferenceIdeal.Value.run (F := Ideal) m' ρ')

end Cert.KernelIdeal.Attn

end
-- ==== Proof.lean ====
module

public import proofs.«01_k».proof.Defs
public import proofs.«01_k».proof.Proof.Equal

@[expose] public section

noncomputable section

namespace Cert.Proof

open Cert.KernelIdeal.Attn

theorem claim : Cert.Claim :=
  ⟨Cert.Kernel.Gen.facts, Cert.KernelIdeal.Gen.facts, Cert.ReferenceIdeal.Gen.facts, facts_finite, facts_finite_whole,
    frame_kernel, frame_ideal, frame_ideal_finite, frame_reference, frame_reference_finite, names, same_function⟩

end Cert.Proof

end
